-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DistinctIdeal (m : (ℓ : Loc Cert.DistinctIdeal.nD Cert.DistinctIdeal.τ Cert.DistinctIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_DistinctIdeal [hDistinctIdeal : Cert.DistinctIdeal.Facts] : Prop :=
  ∀ (m : (ℓ : Loc Cert.DistinctIdeal.nD Cert.DistinctIdeal.τ Cert.DistinctIdeal.sig) → Buf (Elt Ideal) ℓ) (g : Dev Cert.DistinctIdeal.nD → PrngReg), Pre_DistinctIdeal m →
    θ_run (Cert.DistinctIdeal.defs (F := Ideal)) (onTc (τ := Cert.DistinctIdeal.τ) (Cert.DistinctIdeal.main (F := Ideal))) ⟨m, fun _ => 0, g⟩ (fun r => (∀ c : Dev Cert.DistinctIdeal.nD,
      r.2.mem ((c.tc : Thread Cert.DistinctIdeal.nD Cert.DistinctIdeal.τ).loc Cert.DistinctIdeal.main_arg0) = m ((c.tc : Thread Cert.DistinctIdeal.nD Cert.DistinctIdeal.τ).loc Cert.DistinctIdeal.main_arg0))
      ∧ r.2.sem = fun _ => 0)

def preserves_Kernel_KernelIdeal : Prop :=
  True

def algebraic_KernelIdeal_DistinctIdeal [hKernelIdeal : Cert.KernelIdeal.Facts] [hDistinctIdeal : Cert.DistinctIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.DistinctIdeal.nD Cert.DistinctIdeal.τ Cert.DistinctIdeal.sig) → Buf (Elt Ideal) ℓ) (g' : Dev Cert.DistinctIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 16384]⟩ (Layout.meshBlock [2, 4, 4] ![[], [1]] c) (m' (((0 : Dev Cert.DistinctIdeal.nD).tc : Thread Cert.DistinctIdeal.nD Cert.DistinctIdeal.τ).loc Cert.DistinctIdeal.main_arg0))) →
    ∃ (v0 : Buf (Elt Ideal) (((0 : Dev Cert.DistinctIdeal.nD).tc : Thread Cert.DistinctIdeal.nD Cert.DistinctIdeal.τ).loc Cert.DistinctIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.DistinctIdeal.defs (F := Ideal)) (onTc (τ := Cert.DistinctIdeal.τ) (Cert.DistinctIdeal.main (F := Ideal))) ⟨m', fun _ => 0, g'⟩ (fun r =>
          r.2.mem (((0 : Dev Cert.DistinctIdeal.nD).tc : Thread Cert.DistinctIdeal.nD Cert.DistinctIdeal.τ).loc Cert.DistinctIdeal.main_v12) = v0
          ∧ r.2.mem (((0 : Dev Cert.DistinctIdeal.nD).tc : Thread Cert.DistinctIdeal.nD Cert.DistinctIdeal.τ).loc Cert.DistinctIdeal.main_arg0) = m' (((0 : Dev Cert.DistinctIdeal.nD).tc : Thread Cert.DistinctIdeal.nD Cert.DistinctIdeal.τ).loc Cert.DistinctIdeal.main_arg0))

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 16384]⟩ (Layout.meshBlock [2, 4, 4] ![[], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 16]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 16]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hDistinctIdeal : Cert.DistinctIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ quiescent_DistinctIdeal (hDistinctIdeal := hDistinctIdeal)
    ∧ preserves_Kernel_KernelIdeal
    ∧ algebraic_KernelIdeal_DistinctIdeal (hKernelIdeal := hKernelIdeal) (hDistinctIdeal := hDistinctIdeal)
    ∧ algebraic_KernelIdeal_ReferenceIdeal_on_untied (hKernelIdeal := hKernelIdeal) (hReferenceIdeal := hReferenceIdeal) (hOn_untied := hOn_untied)
-- ==== On_untied.lean ====
abbrev S512x16384 : Shape := ⟨2, ![512, 16384]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩
abbrev S15 : Shape := ⟨1, ![15]⟩
abbrev S1x1x15 : Shape := ⟨3, ![1, 1, 15]⟩
abbrev S16 : Shape := ⟨1, ![16]⟩
abbrev S1x16x1 : Shape := ⟨3, ![1, 16, 1]⟩
abbrev S1x16x15 : Shape := ⟨3, ![1, 16, 15]⟩
abbrev S512x15 : Shape := ⟨2, ![512, 15]⟩
abbrev S512x1x15 : Shape := ⟨3, ![512, 1, 15]⟩
abbrev S512x16x15 : Shape := ⟨3, ![512, 16, 15]⟩

class Facts : Prop where
  slices_S512x16384_S512x16_0_0 : S512x16384.Slices ![0, 0] S512x16
  bcast_S_S512x16 : S_.BroadcastsInDim S512x16 (![] : Fin 0 → Fin S512x16.rank)
  shapeCasts_S512x16_S512x16x1 : S512x16.ShapeCasts S512x16x1
  bcast_S_S512x16x1 : S_.BroadcastsInDim S512x16x1 (![] : Fin 0 → Fin S512x16x1.rank)
  bcast_S1_S1x1x1_2 : S1.BroadcastsInDim S1x1x1 (![2] : Fin 1 → Fin S1x1x1.rank)
  bcast_S1x1x1_S512x16x1_0_1_2 : S1x1x1.BroadcastsInDim S512x16x1 (![0, 1, 2] : Fin 3 → Fin S512x16x1.rank)
  reducesTo_S512x16x1_S512x16_d2 : S512x16x1.ReducesTo [2] S512x16
  h_S_ : 0 < S_.numel
  bcast_S15_S1x1x15_2 : S15.BroadcastsInDim S1x1x15 (![2] : Fin 1 → Fin S1x1x15.rank)
  bcast_S16_S1x16x1_1 : S16.BroadcastsInDim S1x16x1 (![1] : Fin 1 → Fin S1x16x1.rank)
  bcast_S1x1x15_S1x16x15_0_1_2 : S1x1x15.BroadcastsInDim S1x16x15 (![0, 1, 2] : Fin 3 → Fin S1x16x15.rank)
  bcast_S1x16x1_S1x16x15_0_1_2 : S1x16x1.BroadcastsInDim S1x16x15 (![0, 1, 2] : Fin 3 → Fin S1x16x15.rank)
  slices_S512x16_S512x15_0_1 : S512x16.Slices ![0, 1] S512x15
  bcast_S512x15_S512x1x15_0_2 : S512x15.BroadcastsInDim S512x1x15 (![0, 2] : Fin 2 → Fin S512x1x15.rank)
  slices_S512x16_S512x15_0_0 : S512x16.Slices ![0, 0] S512x15
  bcast_S1x16x15_S512x16x15_0_1_2 : S1x16x15.BroadcastsInDim S512x16x15 (![0, 1, 2] : Fin 3 → Fin S512x16x15.rank)
  bcast_S512x1x15_S512x16x15_0_1_2 : S512x1x15.BroadcastsInDim S512x16x15 (![0, 1, 2] : Fin 3 → Fin S512x16x15.rank)
  reducesTo_S512x16x15_S512x16_d2 : S512x16x15.ReducesTo [2] S512x16
  gather_S512x16384_S512x16x1_S512x16_n_1_0_0_1_2_11_wf : GatherDims.WF S512x16384 S512x16x1 S512x16 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S512x16384_S512x16x1_S512x16_n_1_0_0_1_2_11 : GatherDims S512x16384 S512x16x1 S512x16 where
  offsetDims := []
  collapsedSliceDims := [1]
  operandBatchingDims := [0]
  startIndicesBatchingDims := [0]
  startIndexMap := [1]
  indexVectorDim := 2
  sliceSizes := ![1, 1]
  wf := gather_S512x16384_S512x16x1_S512x16_n_1_0_0_1_2_11_wf

def fn_argsort {F : FTy → Type} [FloatOps F] (arg0 : FVec F S512x16384 .f32) : IVec S512x16384 32 :=
  let v0 : IVec S512x16384 32 := iotaInDim S512x16384 32 1
  let v1_0 : FVec F S512x16384 .f32 := (fun x y => (Host.sort2 S512x16384 1 comparator_f32_i32_d1 x y).1) arg0 v0
  let v1_1 : IVec S512x16384 32 := (fun x y => (Host.sort2 S512x16384 1 comparator_f32_i32_d1 x y).2) arg0 v0
  v1_1

def fn_take_along_axis {F : FTy → Type} [FloatOps F] (arg0 : FVec F S512x16384 .f32) (arg1 : IVec S512x16 32) : FVec F S512x16 .f32 :=
  let c : IVec S_ 32 := constantI S_ 32 0#32
  let v0 : IVec S512x16 32 := broadcastInDim S512x16 ![] bcast_S_S512x16 c
  let v1 : IVec S512x16 1 := cmpi .slt arg1 v0
  let c_0 : IVec S_ 32 := constantI S_ 32 16384#32
  let v2 : IVec S512x16 32 := broadcastInDim S512x16 ![] bcast_S_S512x16 c_0
  let v3 : IVec S512x16 32 := addi arg1 v2
  let v4 : IVec S512x16 32 := select v1 v3 arg1
  let v5 : IVec S512x16x1 32 := shapeCast S512x16x1 v4 shapeCasts_S512x16_S512x16x1
  let c_1 : IVec S1 32 := constantI S1 32 16383#32
  let c_2 : IVec S_ 32 := constantI S_ 32 0#32
  let v6 : IVec S512x16x1 32 := broadcastInDim S512x16x1 ![] bcast_S_S512x16x1 c_2
  let v7 : IVec S512x16x1 1 := cmpi .sge v5 v6
  let v8 : IVec S1x1x1 32 := broadcastInDim S1x1x1 ![2] bcast_S1_S1x1x1_2 c_1
  let v9 : IVec S512x16x1 32 := broadcastInDim S512x16x1 ![0, 1, 2] bcast_S1x1x1_S512x16x1_0_1_2 v8
  let v10 : IVec S512x16x1 1 := cmpi .sle v5 v9
  let v11 : IVec S512x16x1 1 := andi v7 v10
  let c_3 : IVec S_ 1 := constantI S_ 1 1#1
  let v12 : IVec S512x16 1 := (fun x v => Host.reduce IntOp.andi x v reducesTo_S512x16x1_S512x16_d2 h_S_) v11 c_3
  let v13 : FVec F S512x16 .f32 := (fun x i => Host.gather gather_S512x16384_S512x16x1_S512x16_n_1_0_0_1_2_11 x i) arg0 v5
  let cst : FVec F S_ .f32 := constant S_ .f32 0x7FC00000#32
  let v14 : FVec F S512x16 .f32 := broadcastInDim S512x16 ![] bcast_S_S512x16 cst
  let v15 : FVec F S512x16 .f32 := select v12 v13 v14
  v15

def fn {F : FTy → Type} [FloatOps F] (main_arg0 : FVec F S512x16384 .f32) : IVec S512x16 1 :=
  let main_v0 : FVec F S512x16384 .f32 := Host.negf main_arg0
  let main_v1 : IVec S512x16384 32 := fn_argsort (F := F) main_v0
  let main_v2 : IVec S512x16 32 := (extractStridedSlice S512x16 ![0, 0] · slices_S512x16384_S512x16_0_0) main_v1
  let main_v3 : FVec F S512x16 .f32 := fn_take_along_axis (F := F) main_arg0 main_v2
  let main_v4 : IVec S15 32 := iotaInDim S15 32 0
  let main_v5 : IVec S1x1x15 32 := broadcastInDim S1x1x15 ![2] bcast_S15_S1x1x15_2 main_v4
  let main_v6 : IVec S16 32 := iotaInDim S16 32 0
  let main_v7 : IVec S1x16x1 32 := broadcastInDim S1x16x1 ![1] bcast_S16_S1x16x1_1 main_v6
  let main_v8 : IVec S1x16x15 32 := broadcastInDim S1x16x15 ![0, 1, 2] bcast_S1x1x15_S1x16x15_0_1_2 main_v5
  let main_v9 : IVec S1x16x15 32 := broadcastInDim S1x16x15 ![0, 1, 2] bcast_S1x16x1_S1x16x15_0_1_2 main_v7
  let main_v10 : IVec S1x16x15 1 := cmpi .sge main_v8 main_v9
  let main_v11 : FVec F S512x15 .f32 := (extractStridedSlice S512x15 ![0, 1] · slices_S512x16_S512x15_0_1) main_v3
  let main_v12 : FVec F S512x1x15 .f32 := broadcastInDim S512x1x15 ![0, 2] bcast_S512x15_S512x1x15_0_2 main_v11
  let main_v13 : FVec F S512x15 .f32 := (extractStridedSlice S512x15 ![0, 0] · slices_S512x16_S512x15_0_0) main_v3
  let main_v14 : FVec F S512x1x15 .f32 := broadcastInDim S512x1x15 ![0, 2] bcast_S512x15_S512x1x15_0_2 main_v13
  let main_v15 : IVec S512x1x15 1 := cmpf .une main_v12 main_v14
  let main_v16 : IVec S512x16x15 1 := broadcastInDim S512x16x15 ![0, 1, 2] bcast_S1x16x15_S512x16x15_0_1_2 main_v10
  let main_v17 : IVec S512x16x15 1 := broadcastInDim S512x16x15 ![0, 1, 2] bcast_S512x1x15_S512x16x15_0_1_2 main_v15
  let main_v18 : IVec S512x16x15 1 := ori main_v16 main_v17
  let main_c : IVec S_ 1 := constantI S_ 1 1#1
  let main_v19 : IVec S512x16 1 := (fun x v => Host.reduce IntOp.andi x v reducesTo_S512x16x15_S512x16_d2 h_S_) main_v18 main_c
  main_v19
-- ==== Kernel.lean ====
abbrev S512x4096 : Shape := ⟨2, ![512, 4096]⟩
abbrev S512x16 : Shape := ⟨2, ![512, 16]⟩
abbrev S4x512x16 : Shape := ⟨3, ![4, 512, 16]⟩
abbrev S4 : Shape := ⟨1, ![4]⟩
abbrev S_ : Shape := ⟨0, ![]⟩
abbrev S512x256 : Shape := ⟨2, ![512, 256]⟩
abbrev S512x1280 : Shape := ⟨2, ![512, 1280]⟩
abbrev S512 : Shape := ⟨1, ![512]⟩
abbrev S512x1 : Shape := ⟨2, ![512, 1]⟩
abbrev S1x512x256 : Shape := ⟨3, ![1, 512, 256]⟩
abbrev S1 : Shape := ⟨1, ![1]⟩
abbrev S1x1x1 : Shape := ⟨3, ![1, 1, 1]⟩
abbrev S1x512x16 : Shape := ⟨3, ![1, 512, 16]⟩
abbrev S1x512x1 : Shape := ⟨3, ![1, 512, 1]⟩

abbrev nBuf : Space → Nat
  | .hbm => 2
  | .vmem => 3
  | .smem => 0
  | _ => 0

abbrev bufTy : (tb : Table) → Fin (tcTables nBuf tb) → BufTy
  | .hbm, ⟨0, _⟩ => ⟨S512x4096, .f32⟩
  | .hbm, ⟨1, _⟩ => ⟨S512x16, .f32⟩
  | .local _ .vmem, ⟨0, _⟩ => ⟨S512x4096, .f32⟩
  | .local _ .vmem, ⟨1, _⟩ => ⟨S512x16, .f32⟩
  | .local _ .vmem, ⟨2, _⟩ => ⟨S4x512x16, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v10 : BitVec 1 := Scalar.cmpi .ne v5 c0_i32
  let v11 : BitVec 32 := Scalar.extui v10
  let c0_i32_2 : BitVec 32 := 0#32
  let v12 : BitVec 1 := Scalar.cmpi .ne v11 c0_i32_2
  v12

def k0_dev1 (d0 : Dev nD) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_116 : BitVec 32 := 16#32
  let v453 : BitVec 32 := Scalar.muli v2 c16_i32_116
  let v454 : BitVec 32 := Scalar.addi c0_i32_117 v453
  let c0_i32_115 : BitVec 32 := 0#32
  let c4_i32_118 : BitVec 32 := 4#32
  let v455 : BitVec 32 := Scalar.muli c0_i32_115 c4_i32_118
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v457 : BitVec 32 := Scalar.muli v8 c1_i32_119
  let v458 : BitVec 32 := Scalar.addi v456 v457
  v458.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v13 : BitVec 1 := Scalar.cmpi .ne v5 c1_i32_3
  let v14 : BitVec 32 := Scalar.extui v13
  let c0_i32_4 : BitVec 32 := 0#32
  let v15 : BitVec 1 := Scalar.cmpi .ne v14 c0_i32_4
  v15

def k0_dev2 (d0 : Dev nD) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_116 : BitVec 32 := 16#32
  let v453 : BitVec 32 := Scalar.muli v2 c16_i32_116
  let v454 : BitVec 32 := Scalar.addi c0_i32_117 v453
  let c1_i32_115 : BitVec 32 := 1#32
  let c4_i32_118 : BitVec 32 := 4#32
  let v455 : BitVec 32 := Scalar.muli c1_i32_115 c4_i32_118
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v457 : BitVec 32 := Scalar.muli v8 c1_i32_119
  let v458 : BitVec 32 := Scalar.addi v456 v457
  v458.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v16 : BitVec 1 := Scalar.cmpi .ne v5 c2_i32_5
  let v17 : BitVec 32 := Scalar.extui v16
  let c0_i32_6 : BitVec 32 := 0#32
  let v18 : BitVec 1 := Scalar.cmpi .ne v17 c0_i32_6
  v18

def k0_dev3 (d0 : Dev nD) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_116 : BitVec 32 := 16#32
  let v453 : BitVec 32 := Scalar.muli v2 c16_i32_116
  let v454 : BitVec 32 := Scalar.addi c0_i32_117 v453
  let c2_i32_115 : BitVec 32 := 2#32
  let c4_i32_118 : BitVec 32 := 4#32
  let v455 : BitVec 32 := Scalar.muli c2_i32_115 c4_i32_118
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v457 : BitVec 32 := Scalar.muli v8 c1_i32_119
  let v458 : BitVec 32 := Scalar.addi v456 v457
  v458.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v19 : BitVec 1 := Scalar.cmpi .ne v5 c3_i32
  let v20 : BitVec 32 := Scalar.extui v19
  let c0_i32_7 : BitVec 32 := 0#32
  let v21 : BitVec 1 := Scalar.cmpi .ne v20 c0_i32_7
  v21

def k0_dev4 (d0 : Dev nD) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_116 : BitVec 32 := 16#32
  let v453 : BitVec 32 := Scalar.muli v2 c16_i32_116
  let v454 : BitVec 32 := Scalar.addi c0_i32_117 v453
  let c3_i32_115 : BitVec 32 := 3#32
  let c4_i32_118 : BitVec 32 := 4#32
  let v455 : BitVec 32 := Scalar.muli c3_i32_115 c4_i32_118
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v457 : BitVec 32 := Scalar.muli v8 c1_i32_119
  let v458 : BitVec 32 := Scalar.addi v456 v457
  v458.toNat
def k0_off1 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v453 : Index := Scalar.indexCast v5
  let c0_114 : Index := 0#32
  let c0_115 : Index := 0#32
  ![v453.toNat, 0, 0]
def k0_off2 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v563 : Index := Scalar.indexCast v5
  let c0_147 : Index := 0#32
  let c0_148 : Index := 0#32
  ![v563.toNat, 0, 0]
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_62 : BitVec 32 := 0#32
  let v319 : BitVec 1 := Scalar.cmpi .ne v5 c0_i32_62
  let v320 : BitVec 32 := Scalar.extui v319
  let c0_i32_63 : BitVec 32 := 0#32
  let v321 : BitVec 1 := Scalar.cmpi .ne v320 c0_i32_63
  v321

def k0_off3 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off4 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_120 : BitVec 32 := 0#32
  let c0_i32_121 : BitVec 32 := 0#32
  ![v5.toNat, 0, 0]
def k0_dev5 (d0 : Dev nD) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_116 : BitVec 32 := 16#32
  let v453 : BitVec 32 := Scalar.muli v2 c16_i32_116
  let v454 : BitVec 32 := Scalar.addi c0_i32_117 v453
  let c0_i32_115 : BitVec 32 := 0#32
  let c4_i32_118 : BitVec 32 := 4#32
  let v455 : BitVec 32 := Scalar.muli c0_i32_115 c4_i32_118
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v457 : BitVec 32 := Scalar.muli v8 c1_i32_119
  let v458 : BitVec 32 := Scalar.addi v456 v457
  v458.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_64 : BitVec 32 := 1#32
  let v322 : BitVec 1 := Scalar.cmpi .ne v5 c1_i32_64
  let v323 : BitVec 32 := Scalar.extui v322
  let c0_i32_65 : BitVec 32 := 0#32
  let v324 : BitVec 1 := Scalar.cmpi .ne v323 c0_i32_65
  v324

def k0_off5 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off6 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_120 : BitVec 32 := 0#32
  let c0_i32_121 : BitVec 32 := 0#32
  ![v5.toNat, 0, 0]
def k0_dev6 (d0 : Dev nD) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_116 : BitVec 32 := 16#32
  let v453 : BitVec 32 := Scalar.muli v2 c16_i32_116
  let v454 : BitVec 32 := Scalar.addi c0_i32_117 v453
  let c1_i32_115 : BitVec 32 := 1#32
  let c4_i32_118 : BitVec 32 := 4#32
  let v455 : BitVec 32 := Scalar.muli c1_i32_115 c4_i32_118
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v457 : BitVec 32 := Scalar.muli v8 c1_i32_119
  let v458 : BitVec 32 := Scalar.addi v456 v457
  v458.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_66 : BitVec 32 := 2#32
  let v325 : BitVec 1 := Scalar.cmpi .ne v5 c2_i32_66
  let v326 : BitVec 32 := Scalar.extui v325
  let c0_i32_67 : BitVec 32 := 0#32
  let v327 : BitVec 1 := Scalar.cmpi .ne v326 c0_i32_67
  v327

def k0_off7 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off8 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_120 : BitVec 32 := 0#32
  let c0_i32_121 : BitVec 32 := 0#32
  ![v5.toNat, 0, 0]
def k0_dev7 (d0 : Dev nD) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_116 : BitVec 32 := 16#32
  let v453 : BitVec 32 := Scalar.muli v2 c16_i32_116
  let v454 : BitVec 32 := Scalar.addi c0_i32_117 v453
  let c2_i32_115 : BitVec 32 := 2#32
  let c4_i32_118 : BitVec 32 := 4#32
  let v455 : BitVec 32 := Scalar.muli c2_i32_115 c4_i32_118
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v457 : BitVec 32 := Scalar.muli v8 c1_i32_119
  let v458 : BitVec 32 := Scalar.addi v456 v457
  v458.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_68 : BitVec 32 := 3#32
  let v328 : BitVec 1 := Scalar.cmpi .ne v5 c3_i32_68
  let v329 : BitVec 32 := Scalar.extui v328
  let c0_i32_69 : BitVec 32 := 0#32
  let v330 : BitVec 1 := Scalar.cmpi .ne v329 c0_i32_69
  v330

def k0_off9 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off10 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_120 : BitVec 32 := 0#32
  let c0_i32_121 : BitVec 32 := 0#32
  ![v5.toNat, 0, 0]
def k0_dev8 (d0 : Dev nD) : Nat :=
  let c0_i32_117 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_116 : BitVec 32 := 16#32
  let v453 : BitVec 32 := Scalar.muli v2 c16_i32_116
  let v454 : BitVec 32 := Scalar.addi c0_i32_117 v453
  let c3_i32_115 : BitVec 32 := 3#32
  let c4_i32_118 : BitVec 32 := 4#32
  let v455 : BitVec 32 := Scalar.muli c3_i32_115 c4_i32_118
  let v456 : BitVec 32 := Scalar.addi v454 v455
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v457 : BitVec 32 := Scalar.muli v8 c1_i32_119
  let v458 : BitVec 32 := Scalar.addi v456 v457
  v458.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x16384 : Shape := ⟨2, ![512, 16384]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S512x16384, .f32⟩
  | .hbm, ⟨2, _⟩ => ⟨S512x16384, .i32⟩
  | .hbm, ⟨3, _⟩ => ⟨S512x16384, .f32⟩
  | .hbm, ⟨4, _⟩ => ⟨S512x16384, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S512x16, .i32⟩
  | .hbm, ⟨13, _⟩ => ⟨S512x16x1, .i32⟩
  | .hbm, ⟨14, _⟩ => ⟨S1, .i32⟩
  | .hbm, ⟨15, _⟩ => ⟨S_, .i32⟩
  | .hbm, ⟨16, _⟩ => ⟨S512x16x1, .i32⟩
  | .hbm, ⟨17, _⟩ => ⟨S512x16x1, .i1⟩
  | .hbm, ⟨18, _⟩ => ⟨S1x1x1, .i32⟩
  | .hbm, ⟨19, _⟩ => ⟨S512x16x1, .i32⟩
  | .hbm, ⟨20, _⟩ => ⟨S512x16x1, .i1⟩
  | .hbm, ⟨21, _⟩ => ⟨S512x16x1, .i1⟩
  | .hbm, ⟨22, _⟩ => ⟨S_, .i1⟩
  | .hbm, ⟨23, _⟩ => ⟨S512x16, .i1⟩
  | .hbm, ⟨24, _⟩ => ⟨S512x16, .f32⟩
  | .hbm, ⟨25, _⟩ => ⟨S_, .f32⟩
  | .hbm, ⟨26, _⟩ => ⟨S512x16, .f32⟩
  | .hbm, ⟨27, _⟩ => ⟨S512x16, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== DistinctIdeal.lean ====
abbrev S512x16384 : Shape := ⟨2, ![512, 16384]⟩
abbrev S_ : Shape := ⟨0, ![]⟩
abbrev S512x1 : Shape := ⟨2, ![512, 1]⟩
abbrev S512x16383 : Shape := ⟨2, ![512, 16383]⟩
abbrev S512x16 : Shape := ⟨2, ![512, 16]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S512x16384, .f32⟩
  | .hbm, ⟨2, _⟩ => ⟨S512x16384, .f32⟩
  | .hbm, ⟨3, _⟩ => ⟨S512x16384, .f32⟩
  | .hbm, ⟨4, _⟩ => ⟨S_, .i1⟩
  | .hbm, ⟨5, _⟩ => ⟨S512x1, .i1⟩
  | .hbm, ⟨6, _⟩ => ⟨S512x16383, .f32⟩
  | .hbm, ⟨7, _⟩ => ⟨S512x16383, .f32⟩
  | .hbm, ⟨8, _⟩ => ⟨S512x16383, .i1⟩
  | .hbm, ⟨9, _⟩ => ⟨S512x16384, .i1⟩
  | .hbm, ⟨10, _⟩ => ⟨S_, .f32⟩
  | .hbm, ⟨11, _⟩ => ⟨S_, .f32⟩
  | .hbm, ⟨12, _⟩ => ⟨S512x16384, .f32⟩
  | .hbm, ⟨13, _⟩ => ⟨S512x16384, .f32⟩
  | .hbm, ⟨14, _⟩ => ⟨S512x16384, .f32⟩
  | .hbm, ⟨15, _⟩ => ⟨S512x16384, .i32⟩
  | .hbm, ⟨16, _⟩ => ⟨S512x16384, .f32⟩
  | .hbm, ⟨17, _⟩ => ⟨S512x16384, .i32⟩
  | .hbm, ⟨18, _⟩ => ⟨S512x16, .i32⟩
  | .hbm, ⟨19, _⟩ => ⟨S_, .i32⟩
  | .hbm, ⟨20, _⟩ => ⟨S512x16, .i32⟩
  | .hbm, ⟨21, _⟩ => ⟨S512x16, .i1⟩
  | .hbm, ⟨22, _⟩ => ⟨S_, .i32⟩
  | .hbm, ⟨23, _⟩ => ⟨S512x16, .i32⟩
  | .hbm, ⟨24, _⟩ => ⟨S512x16, .i32⟩
  | .hbm, ⟨25, _⟩ => ⟨S512x16, .i32⟩
  | .hbm, ⟨26, _⟩ => ⟨S512x16x1, .i32⟩
  | .hbm, ⟨27, _⟩ => ⟨S1, .i32⟩
  | .hbm, ⟨28, _⟩ => ⟨S_, .i32⟩
  | .hbm, ⟨29, _⟩ => ⟨S512x16x1, .i32⟩
  | .hbm, ⟨30, _⟩ => ⟨S512x16x1, .i1⟩
  | .hbm, ⟨31, _⟩ => ⟨S1x1x1, .i32⟩
  | .hbm, ⟨32, _⟩ => ⟨S512x16x1, .i32⟩
  | .hbm, ⟨33, _⟩ => ⟨S512x16x1, .i1⟩
  | .hbm, ⟨34, _⟩ => ⟨S512x16x1, .i1⟩
  | .hbm, ⟨35, _⟩ => ⟨S_, .i1⟩
  | .hbm, ⟨36, _⟩ => ⟨S512x16, .i1⟩
  | .hbm, ⟨37, _⟩ => ⟨S512x16, .f32⟩
  | .hbm, ⟨38, _⟩ => ⟨S_, .f32⟩
  | .hbm, ⟨39, _⟩ => ⟨S512x16, .f32⟩
  | .hbm, ⟨40, _⟩ => ⟨S512x16, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_call1_v0 : Ref sig .tc := ⟨.hbm, 11, rfl⟩
abbrev main_call1_v1 : Ref sig .tc := ⟨.hbm, 12, rfl⟩
abbrev main_v8 : Ref sig .tc := ⟨.hbm, 13, rfl⟩
abbrev main_v9 : Ref sig .tc := ⟨.hbm, 14, rfl⟩
abbrev main_call2_v0 : Ref sig .tc := ⟨.hbm, 15, rfl⟩
abbrev main_call2_v1_0 : Ref sig .tc := ⟨.hbm, 16, rfl⟩
abbrev main_v10 : Ref sig .tc := ⟨.hbm, 17, rfl⟩
abbrev main_v11 : Ref sig .tc := ⟨.hbm, 18, rfl⟩
abbrev main_call3_c : Ref sig .tc := ⟨.hbm, 19, rfl⟩
abbrev main_call3_v0 : Ref sig .tc := ⟨.hbm, 20, rfl⟩
abbrev main_call3_v1 : Ref sig .tc := ⟨.hbm, 21, rfl⟩
abbrev main_call3_c_0 : Ref sig .tc := ⟨.hbm, 22, rfl⟩
abbrev main_call3_v2 : Ref sig .tc := ⟨.hbm, 23, rfl⟩
abbrev main_call3_v3 : Ref sig .tc := ⟨.hbm, 24, rfl⟩
abbrev main_call3_v4 : Ref sig .tc := ⟨.hbm, 25, rfl⟩
abbrev main_call3_v5 : Ref sig .tc := ⟨.hbm, 26, rfl⟩
abbrev main_call3_c_1 : Ref sig .tc := ⟨.hbm, 27, rfl⟩
abbrev main_call3_c_2 : Ref sig .tc := ⟨.hbm, 28, rfl⟩
abbrev main_call3_v6 : Ref sig .tc := ⟨.hbm, 29, rfl⟩
abbrev main_call3_v7 : Ref sig .tc := ⟨.hbm, 30, rfl⟩
abbrev main_call3_v8 : Ref sig .tc := ⟨.hbm, 31, rfl⟩
abbrev main_call3_v9 : Ref sig .tc := ⟨.hbm, 32, rfl⟩
abbrev main_call3_v10 : Ref sig .tc := ⟨.hbm, 33, rfl⟩
abbrev main_call3_v11 : Ref sig .tc := ⟨.hbm, 34, rfl⟩
abbrev main_call3_c_3 : Ref sig .tc := ⟨.hbm, 35, rfl⟩
abbrev main_call3_v12 : Ref sig .tc := ⟨.hbm, 36, rfl⟩
abbrev main_call3_v13 : Ref sig .tc := ⟨.hbm, 37, rfl⟩
abbrev main_call3_cst : Ref sig .tc := ⟨.hbm, 38, rfl⟩
abbrev main_call3_v14 : Ref sig .tc := ⟨.hbm, 39, rfl⟩
abbrev main_v12 : Ref sig .tc := ⟨.hbm, 40, rfl⟩

abbrev nD : Nat := 1
abbrev τ : Topo := Topo.v7x

variable {F : FTy → Type} [FloatOps F]
-- ==== Proof.Protocol.lean ====
/-
The devices of one row of the mesh (equal x and z) exchange their sixteen candidates. This module says who they are,
names the semaphores they use and states the schedule: which device pays which semaphore, and what it hands over.

A device has one barrier cell, a send cell and a receive cell per row position `t`.
  * Its barrier cell is raised once by each of its three peers; the peer at position `t` hands over its own candidate
    slot number `yc c`, into which the device will copy.
  * Its send cell `t` is raised when its copy to the peer at `t` has left; it gets its own slot back.
  * Its receive cell `s` is raised when the peer at `s` has written slot `s`; it gets that slot, written.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Duties are named by the row position of the device that pays them. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The row of four devices -/

set_option backward.proofsInPublic true in
/-- A device's position in its row: its coordinate along `y`. -/
def yc (c : Dev nD) : Fin 4 := ⟨c.val / 4 % 4, Nat.mod_lt _ (by decide)⟩
set_option backward.proofsInPublic true in
/-- The device at position `t` of `c`'s row. -/
def peer (c : Dev nD) (t : Fin 4) : Dev nD :=
  ⟨16 * (c.val / 16) + 4 * t.val + c.val % 4, by have := c.isLt; have := t.isLt; simp only [nD] at *; omega⟩

theorem yc_peer (c : Dev nD) (t : Fin 4) : yc (peer c t) = t := by
  apply Fin.ext; have := t.isLt; simp only [yc, peer]; omega
theorem peer_peer (c : Dev nD) (t s : Fin 4) : peer (peer c t) s = peer c s := by
  apply Fin.ext; have := t.isLt; have := s.isLt; simp only [peer]; omega
theorem peer_self (c : Dev nD) : peer c (yc c) = c := by
  apply Fin.ext; simp only [peer, yc]; omega
theorem peer_back (c : Dev nD) (t : Fin 4) : peer (peer c t) (yc c) = c := by rw [peer_peer, peer_self]

/-! ## Memrefs and semaphores -/

abbrev xM : Memref sig .tc .vmem S512x4096 .f32 := Memref.whole cc0_stg0_0
abbrev oM : Memref sig .tc .vmem S512x16 .f32 := Memref.whole cc0_stg1_0
abbrev cM : Memref sig .tc .vmem S4x512x16 .f32 := Memref.whole cc0_scratch0

set_option backward.proofsInPublic true in
theorem slot_inb (s : Fin 4) : ∀ a, (![s.val, 0, 0] : Fin 3 → ℕ) a + S1x512x16.size a ≤ S4x512x16.size a := by
  revert s; decide
set_option backward.proofsInPublic true in
theorem one_inb (s : Fin 4) : ∀ a, (![s.val] : Fin 1 → ℕ) a + S1.size a ≤ S4.size a := by revert s; decide

/-- The box of slot `s` in the candidate buffer. -/
abbrev slotR (s : Fin 4) : Rect S4x512x16 := Rect.unit (s := S4x512x16) ![s.val, 0, 0] S1x512x16.size (slot_inb s)

/-- Slot `s` of the candidate buffer, as the copies name it. -/
abbrev slotM (s : Fin 4) : Memref sig .tc .vmem S512x16 .f32 :=
  (cM.slice (slotR s) (fun _ => rfl)).squeeze S512x16 squeezes_S1x512x16_S512x16

abbrev barS : Sem sig := (SemArray.scalar (sig.barrier 0 rfl) : Sems sig S_).sem
abbrev sendS (t : Fin 4) : DmaSem sig :=
  ((cc0_scratch1.slice (Rect.unit (s := S4) ![t.val] S1.size (one_inb t))).squeeze S_ squeezes_S1_S_).sem
abbrev recvS (t : Fin 4) : DmaSem sig :=
  ((cc0_scratch2.slice (Rect.unit (s := S4) ![t.val] S1.size (one_inb t))).squeeze S_ squeezes_S1_S_).sem

/-- The nine cells of a device: its barrier, its send cells (`false`), its receive cells (`true`). -/
abbrev Ck : Type := Option (Bool × Fin 4)
abbrev csem : Ck → SemLoc sig
  | none => .reg barS
  | some (false, t) => .dma (sendS t)
  | some (true, t) => .dma (recvS t)
abbrev kcell (ck : Dev nD × Ck) : GSem nD τ sig := ((ck.1 : Thread nD τ), csem ck.2)
abbrev barCell (c : Dev nD) : GSem nD τ sig := kcell (c, none)
abbrev sendCell (c : Dev nD) (t : Fin 4) : GSem nD τ sig := kcell (c, some (false, t))
abbrev recvCell (c : Dev nD) (t : Fin 4) : GSem nD τ sig := kcell (c, some (true, t))

theorem csem_injective : Function.Injective csem := by decide
theorem kcell_injective : Function.Injective (kcell : Dev nD × Ck → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Which of the nine a semaphore is, if any. -/
def kindOf (sm : SemLoc sig) : Option Ck := (Finset.univ : Finset Ck).toList.find? fun k => decide (csem k = sm)

theorem kindOf_csem (k : Ck) : kindOf (csem k) = some k := by
  unfold kindOf
  obtain ⟨k', hk'⟩ : ∃ k', (Finset.univ : Finset Ck).toList.find? (fun k' => decide (csem k' = csem k)) = some k' := by
    rw [← Option.isSome_iff_exists, List.find?_isSome]
    exact ⟨k, Finset.mem_toList.mpr (Finset.mem_univ _), by simp⟩
  rw [hk']
  have := List.find?_some hk'
  exact congrArg some (csem_injective (of_decide_eq_true (p := csem k' = csem k) this))

/-- What one slot's copy adds to a semaphore. -/
abbrev N : ℕ := (slotM 0).view.dmaCredit
theorem N_pos : 0 < N := View.dmaCredit_pos _ (by decide)
theorem slot_credit (s : Fin 4) : (slotM s).view.dmaCredit = N := rfl

/-! ## Contents

The body's stores and what the peers have stored: `st c` is the slot value device `c` computes. -/

variable (st : Dev nD → (S1x512x16.Idx → Elt F .f32))

/-- The candidate buffer after the exchange: slot `s` holds what the device at position `s` of the row computed. -/
def full (c : Dev nD) : S4x512x16.Idx → Elt F .f32 :=
  fun i => st (peer c (i 0)) (fun a => match a with | ⟨0, _⟩ => (0 : Fin 1) | ⟨1, _⟩ => i 1 | ⟨2, _⟩ => i 2)

omit [FloatOps F] in
theorem full_peer (c : Dev nD) (t : Fin 4) : full st (peer c t) = full st c := by
  funext i; exact congrArg (fun p => st p _) (peer_peer c t _)

/-- Slot `s` of device `c` holding its part of `f`. -/
abbrev slotPts (c : Dev nD) (s : Fin 4) (f : S4x512x16.Idx → Elt F .f32) : sProp 𝕄 :=
  (slotM s).view.loc (c : Thread nD τ) ↦[(slotM s).view.set]{fullShare} f

omit [FloatOps F] in
instance slotPts_storable (c : Dev nD) (s : Fin 4) (f) : BI.Storable (upEmb : UEmb _ 𝕄) (slotPts (F := F) c s f) := by
  infer_instance

/-! ## The schedule -/

/-- Who pays cell `k` of device `c`. -/
def dut (c : Dev nD) : Ck → Finset (Fin 4)
  | none => Finset.univ.erase (yc c)
  | some (false, t) => if yc c = t then ∅ else {yc c}
  | some (true, s) => if yc c = s then ∅ else {s}

/-- What the payer at position `d` hands over with it. -/
def pay (c : Dev nD) : Ck → Fin 4 → sProp 𝕄
  | none, d => iprop((∃ f, slotPts (peer c d) (yc c) f) ∗ reached ER (recvCell (peer c d) (yc c)) 0)
  | some (false, _), _ => slotPts c (yc c) (full st c)
  | some (true, s), _ => slotPts c s (full st c)

def amt : Option Ck → ℕ
  | some none => 1
  | _ => N

/-- One round, round 0, and nobody pays any other. -/
def dutOf (g : GSem nD τ sig) (r : ℕ) : Finset (Fin 4) :=
  if r = 0 ∧ g.1.2 = .tc then (match kindOf g.2 with | some k => dut g.1.1 k | none => ∅) else ∅

def Rd : Rounds.Schedule (GSem nD τ sig) (Fin 4) 𝕄 where
  duties g r := dutOf g r
  unitless _ := False
  amount g _ _ := amt (kindOf g.2)
  payload g _ d := match kindOf g.2 with | some k => pay st g.1.1 k d | none => iprop(emp)
  amount_pos g _ _ _ := by
    show 0 < amt (kindOf g.2)
    unfold amt
    split
    · exact Nat.one_pos
    · exact N_pos

instance pay_storable (c : Dev nD) (k : Ck) (d : Fin 4) : BI.Storable (upEmb : UEmb _ 𝕄) (pay st c k d) := by
  rcases k with _ | ⟨_ | _, t⟩ <;> unfold pay <;> infer_instance
instance Rd_payload_storable (g : GSem nD τ sig) (r : ℕ) (d : Fin 4) :
    BI.Storable (upEmb : UEmb _ 𝕄) ((Rd (F := F) st).payload g r d) := by
  show BI.Storable upEmb (match kindOf g.2 with | some k => pay st g.1.1 k d | none => iprop(emp))
  split <;> infer_instance

section Sched
variable (c : Dev nD) (k : Ck)

omit [FloatOps F] in
theorem duties_at : (Rd (F := F) st).duties (kcell (c, k)) 0 = dut c k := by
  show dutOf (kcell (c, k)) 0 = _
  unfold dutOf
  rw [if_pos ⟨rfl, rfl⟩]
  show (match kindOf (csem k) with | some k => dut c k | none => ∅) = _; rw [kindOf_csem]
omit [FloatOps F] in
theorem duties_later (g : GSem nD τ sig) : ∀ r, 1 ≤ r → (Rd (F := F) st).duties g r = ∅ :=
  fun r hr => if_neg fun h => by omega
omit [FloatOps F] in
theorem amount_at (d : Fin 4) : (Rd (F := F) st).amount (kcell (c, k)) 0 d = amt (some k) := by
  show amt (kindOf (csem k)) = _; rw [kindOf_csem]
omit [FloatOps F] in
theorem payload_at (d : Fin 4) : (Rd (F := F) st).payload (kcell (c, k)) 0 d = pay st c k d := by
  show (match kindOf (csem k) with | some k => pay st c k d | none => iprop(emp)) = _; rw [kindOf_csem]

omit [FloatOps F] in
theorem expect_bar : (Rd (F := F) st).expect (barCell c) 0 = 3 := by
  unfold Schedule.expect Schedule.amountOf
  rw [duties_at, Finset.sum_congr rfl fun d _ => amount_at st c none d]
  simp only [dut, amt, Finset.sum_const, Finset.card_erase_of_mem (Finset.mem_univ _), Finset.card_univ, Fintype.card_fin, smul_eq_mul]
omit [FloatOps F] in
theorem expect_send (t : Fin 4) (h : yc c ≠ t) : (Rd (F := F) st).expect (sendCell c t) 0 = N := by
  unfold Schedule.expect Schedule.amountOf
  rw [duties_at, Finset.sum_congr rfl fun d _ => amount_at st c _ d]
  simp only [dut, amt, if_neg h, Finset.sum_singleton]
omit [FloatOps F] in
theorem expect_recv (s : Fin 4) (h : yc c ≠ s) : (Rd (F := F) st).expect (recvCell c s) 0 = N := by
  unfold Schedule.expect Schedule.amountOf
  rw [duties_at, Finset.sum_congr rfl fun d _ => amount_at st c _ d]
  simp only [dut, amt, if_neg h, Finset.sum_singleton]

omit [FloatOps F] in
theorem rest_send (t : Fin 4) (h : yc c ≠ t) :
    bigSep ((Rd (F := F) st).duties (sendCell c t) 0 \ ∅) (fun d => (Rd (F := F) st).payload (sendCell c t) 0 d) = slotPts c (yc c) (full st c) := by
  rw [Finset.sdiff_empty, duties_at]
  simp only [dut, if_neg h]
  rw [bigSep_singleton, payload_at]; rfl
omit [FloatOps F] in
theorem rest_recv (s : Fin 4) (h : yc c ≠ s) :
    bigSep ((Rd (F := F) st).duties (recvCell c s) 0 \ ∅) (fun d => (Rd (F := F) st).payload (recvCell c s) 0 d) = slotPts c s (full st c) := by
  rw [Finset.sdiff_empty, duties_at]
  simp only [dut, if_neg h]
  rw [bigSep_singleton, payload_at]; rfl

end Sched

/-! ## What a device owes at launch, and the levels -/

/-- The unit device `c` owes the barrier of the device at `t`. -/
def oB (c : Dev nD) (t : Fin 4) : CellTallies nD τ sig Unit := if yc c = t then 0 else tallyAt (barCell (peer c t)) () 1
/-- The copy it owes that device's receive cell. -/
def oR (c : Dev nD) (t : Fin 4) : CellTallies nD τ sig Unit := if yc c = t then 0 else tallyAt (recvCell (peer c t) (yc c)) () N

/-- The copies still owed when those to positions below `n` have been made. -/
def oRs (c : Dev nD) : ℕ → CellTallies nD τ sig Unit
  | 0 => (((0 + oR c 3) + oR c 2) + oR c 1) + oR c 0
  | 1 => ((0 + oR c 3) + oR c 2) + oR c 1
  | 2 => (0 + oR c 3) + oR c 2
  | 3 => 0 + oR c 3
  | _ => 0
/-- The same for the signals, which all come before the copies. -/
def oBs (c : Dev nD) : ℕ → CellTallies nD τ sig Unit
  | 0 => (((oRs c 0 + oB c 3) + oB c 2) + oB c 1) + oB c 0
  | 1 => ((oRs c 0 + oB c 3) + oB c 2) + oB c 1
  | 2 => (oRs c 0 + oB c 3) + oB c 2
  | 3 => oRs c 0 + oB c 3
  | _ => oRs c 0
abbrev O₀ (c : Dev nD) : CellTallies nD τ sig Unit := oBs c 0

def L (g : GSem nD τ sig) : Finset Unit := if g.1.2 = .tc then {()} else ∅
/-- Barriers below receive cells, everything else below both. -/
def lv (g : GSem nD τ sig) (_ : Unit) : ℕ :=
  match kindOf g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem oB_pos {c : Dev nD} {t : Fin 4} {g : GSem nD τ sig} {u : Unit} (h : 0 < oB c t g u) : g = barCell (peer c t) := by
  unfold oB at h
  split at h
  · exact absurd h (Nat.lt_irrefl 0)
  · rw [tallyAt_apply] at h
    by_contra hn
    rw [if_neg (fun h' => hn h'.1)] at h; exact Nat.lt_irrefl 0 h
theorem oR_pos {c : Dev nD} {t : Fin 4} {g : GSem nD τ sig} {u : Unit} (h : 0 < oR c t g u) : g = recvCell (peer c t) (yc c) := by
  unfold oR at h
  split at h
  · exact absurd h (Nat.lt_irrefl 0)
  · rw [tallyAt_apply] at h
    by_contra hn
    rw [if_neg (fun h' => hn h'.1)] at h; exact Nat.lt_irrefl 0 h

theorem add_pos_or {A B : CellTallies nD τ sig Unit} {g : GSem nD τ sig} {u : Unit} (h : 0 < (A + B) g u) : 0 < A g u ∨ 0 < B g u := by
  rw [Pi.add_apply, Finsupp.add_apply] at h; omega

theorem oRs_pos {c : Dev nD} {n : ℕ} {g : GSem nD τ sig} {u : Unit} (h : 0 < oRs c n g u) : ∃ t, g = recvCell (peer c t) (yc c) := by
  have hz : ¬ 0 < (0 : CellTallies nD τ sig Unit) g u := Nat.lt_irrefl 0
  unfold oRs at h
  split at h
  all_goals first
    | exact absurd h hz
    | skip
  all_goals
    repeat' (rcases add_pos_or h with h | h)
  all_goals first
    | exact absurd h hz
    | exact ⟨_, oR_pos h⟩
theorem oBs_pos {c : Dev nD} {n : ℕ} {g : GSem nD τ sig} {u : Unit} (h : 0 < oBs c n g u) :
    (∃ t, g = recvCell (peer c t) (yc c)) ∨ ∃ t, g = barCell (peer c t) := by
  have hz : 0 < oRs c 0 g u → (∃ t, g = recvCell (peer c t) (yc c)) ∨ ∃ t, g = barCell (peer c t) := fun h => Or.inl (oRs_pos h)
  unfold oBs at h
  generalize oRs c 0 = Z at h hz
  split at h
  all_goals
    repeat' (rcases add_pos_or h with h | h)
  all_goals first
    | exact hz h
    | exact Or.inr ⟨_, oB_pos h⟩

omit [FloatOps F] in
/-- A device may wait on any cell of its own whose level is below that of everything it owes. -/
theorem mayWait_of (c : Dev nD) (sm : SemLoc sig) (n : ℕ) (hn : lv ((c : Thread nD τ), sm) () ≤ n) (O : CellTallies nD τ sig Unit)
    (hL : ∀ g u, 0 < O g u → u ∈ L g) (hO : ∀ g u, 0 < O g u → n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => hL g u hg) (fun p hp => by rw [Finset.mem_singleton.mp hp]; exact hn) (fun g u hg => hO g u hg)

theorem lv_cell (c : Dev nD) (k : Ck) : lv (kcell (c, k)) () = match k with | none => 1 | some (true, _) => 2 | some (false, _) => 0 := by
  unfold lv; rw [show (kcell (c, k)).2 = csem k from rfl, kindOf_csem]
  rcases k with _ | ⟨_ | _, t⟩ <;> rfl

omit [FloatOps F] in
theorem mayWait_low (c : Dev nD) (sm : SemLoc sig) (h : lv ((c : Thread nD τ), sm) () = 0) (n : ℕ) :
    (levAts L lv : sProp 𝕄) ⊢ MayWait (c : Thread nD τ) sm () (oBs c n) :=
  mayWait_of c sm 0 (by rw [h]) _
    (fun g u hg => by rcases oBs_pos hg with ⟨t, rfl⟩ | ⟨t, rfl⟩ <;> exact Finset.mem_singleton_self _)
    (fun g u hg => by rcases oBs_pos hg with ⟨t, rfl⟩ | ⟨t, rfl⟩ <;> rw [lv_cell] <;> exact Nat.succ_pos _)
omit [FloatOps F] in
theorem mayWait_bar (c : Dev nD) : (levAts L lv : sProp 𝕄) ⊢ MayWait (c : Thread nD τ) (.reg barS) () (oRs c 0) :=
  mayWait_of c _ 1 (le_of_eq (lv_cell c none)) _
    (fun g u hg => by obtain ⟨t, rfl⟩ := oRs_pos hg; exact Finset.mem_singleton_self _)
    (fun g u hg => by obtain ⟨t, rfl⟩ := oRs_pos hg; rw [lv_cell]; exact Nat.lt_succ_self 1)
omit [FloatOps F] in
theorem mayWait_send (c : Dev nD) (t : Fin 4) (n : ℕ) : (levAts L lv : sProp 𝕄) ⊢ MayWait (c : Thread nD τ) (.dma (sendS t)) () (oRs c n) :=
  mayWait_of c _ 0 (le_of_eq (lv_cell c (some (false, t)))) _
    (fun g u hg => by obtain ⟨t, rfl⟩ := oRs_pos hg; exact Finset.mem_singleton_self _)
    (fun g u hg => by obtain ⟨t, rfl⟩ := oRs_pos hg; rw [lv_cell]; exact Nat.succ_pos _)

end Cert.TopK

end
-- ==== Proof.Values.lean ====
/-
What the body computes, as functions of the contents it loads: the tuples passed from one piece of the body to the next,
the candidates a device stores in its slot and the result it makes of the four slots.
-/
module

public import proofs.«01_k».proof.Proof.Protocol

@[expose] public section

noncomputable section

namespace Cert.TopK

open Cert.KernelIdeal Cert.KernelIdeal.Gen
open Idealize.ShloMosaic
open Idealize.ShloMosaic.TcCoe

variable {F : FTy → Type} [FloatOps F]

/-- A block of the argument, a lane's worth of columns, a column, and the four slots, as vectors. -/
abbrev VX (F : FTy → Type) : Type := FVec F S512x4096 .f32
abbrev VL (F : FTy → Type) : Type := FVec F S512x256 .f32
abbrev VC (F : FTy → Type) : Type := FVec F S512 .f32
abbrev VK (F : FTy → Type) : Type := FVec F S512x1280 .f32
abbrev VS (F : FTy → Type) : Type := FVec F S4x512x16 .f32
abbrev V1 (F : FTy → Type) : Type := FVec F S512x1 .f32

/-- Columns `o.. o+255` of a block. -/
abbrev cols (o : ℕ) (h : ∀ a, (![0, o] : Fin 2 → ℕ) a + S512x256.size a ≤ S512x4096.size a) (X : VX F) : VL F :=
  (Memref.whole cc0_stg0_0 : Memref sig .tc .vmem S512x4096 .f32).view.readAt (Elt F) (Rect.unit (s := S512x4096) ![0, o] S512x256.size h).toLoadRect X

abbrev T3 (F : FTy → Type) : Type := Σ' (v30 : VL F) (v32 : VL F), VL F
/-- The network over the first three slices. -/
def p3 (X : VX F) : T3 F :=
  let v22 : VL F := cols 0 inb_S512x4096_S512x256_0_0 X
  let v24 : VL F := cols 256 inb_S512x4096_S512x256_0_256 X
  let v28 : VL F := cols 512 inb_S512x4096_S512x256_0_512 X
  ⟨k0_pay38 v22 v24 v28, k0_pay40 v22 v24 v28, k0_pay41 v22 v24 v28⟩

abbrev T4 (F : FTy → Type) : Type := Σ' (v72 : VL F) (v74 : VL F) (v76 : VL F) (v79 : VL F) (v81 : VL F) (v83 : VL F), VL F
/-- The network over eight slices. -/
def p4 (X : VX F) (v30 : VL F) (v32 : VL F) (v33 : VL F) : T4 F :=
  let v34 : VL F := cols 768 inb_S512x4096_S512x256_0_768 X
  let v42 : VL F := cols 1024 inb_S512x4096_S512x256_0_1024 X
  let v52 : VL F := cols 1280 inb_S512x4096_S512x256_0_1280 X
  let v64 : VL F := cols 1536 inb_S512x4096_S512x256_0_1536 X
  let v77 : VL F := cols 1792 inb_S512x4096_S512x256_0_1792 X
  ⟨k0_pay75 v30 v32 v33 v34 v42 v52 v64, k0_pay77 v30 v32 v33 v34 v42 v52 v64, k0_pay78 v30 v32 v33 v34 v42 v52 v64, k0_pay80 v30 v34 v42 v52 v64 v77, k0_pay82 v30 v32 v34 v42 v52 v64 v77, k0_pay84 v30 v32 v33 v34 v42 v52 v64 v77, k0_pay85 v30 v32 v33 v34 v42 v52 v64 v77⟩

abbrev T5 (F : FTy → Type) : Type := Σ' (v124 : VL F) (v126 : VL F) (v128 : VL F) (v131 : VL F) (v133 : VL F) (v135 : VL F), VL F
/-- The network over twelve slices. -/
def p5 (X : VX F) (v72 : VL F) (v74 : VL F) (v76 : VL F) (v79 : VL F) (v81 : VL F) (v83 : VL F) (v84 : VL F) : T5 F :=
  let v90 : VL F := cols 2048 inb_S512x4096_S512x256_0_2048 X
  let v103 : VL F := cols 2304 inb_S512x4096_S512x256_0_2304 X
  let v116 : VL F := cols 2560 inb_S512x4096_S512x256_0_2560 X
  let v129 : VL F := cols 2816 inb_S512x4096_S512x256_0_2816 X
  ⟨k0_pay116 v72 v79 v81 v83 v84 v90 v103 v116, k0_pay118 v72 v74 v79 v81 v83 v84 v90 v103 v116, k0_pay119 v72 v74 v76 v79 v81 v83 v84 v90 v103 v116, k0_pay121 v79 v90 v103 v116 v129, k0_pay123 v79 v81 v90 v103 v116 v129, k0_pay125 v79 v81 v83 v90 v103 v116 v129, k0_pay126 v79 v81 v83 v90 v103 v116 v129⟩

abbrev T6 (F : FTy → Type) : Type := Σ' (v176 : VL F) (v178 : VL F) (v180 : VL F) (v183 : VL F) (v185 : VL F) (v187 : VL F), VL F
/-- The network over all sixteen slices. -/
def p6 (X : VX F) (v124 : VL F) (v126 : VL F) (v128 : VL F) (v131 : VL F) (v133 : VL F) (v135 : VL F) (v136 : VL F) : T6 F :=
  let v142 : VL F := cols 3072 inb_S512x4096_S512x256_0_3072 X
  let v155 : VL F := cols 3328 inb_S512x4096_S512x256_0_3328 X
  let v168 : VL F := cols 3584 inb_S512x4096_S512x256_0_3584 X
  let v181 : VL F := cols 3840 inb_S512x4096_S512x256_0_3840 X
  ⟨k0_pay157 v124 v131 v133 v135 v136 v142 v155 v168, k0_pay159 v124 v126 v131 v133 v135 v136 v142 v155 v168, k0_pay160 v124 v126 v128 v131 v133 v135 v136 v142 v155 v168, k0_pay162 v131 v142 v155 v168 v181, k0_pay164 v131 v133 v142 v155 v168 v181, k0_pay166 v131 v133 v135 v142 v155 v168 v181, k0_pay167 v131 v133 v135 v142 v155 v168 v181⟩

abbrev T7 (F : FTy → Type) : Type := Σ' (v193 : VL F) (v195 : VC F) (v201 : VC F) (v207 : VC F) (v213 : VC F) (v219 : VC F) (v225 : VC F) (v230 : VK F) (v231 : VC F) (v234 : IVec S512x1280 1), F .f32
/-- Each lane's sixth largest, and the first seven of the largest candidates. -/
def p7 (v176 : VL F) (v178 : VL F) (v180 : VL F) (v183 : VL F) (v185 : VL F) (v187 : VL F) (v188 : VL F) : T7 F :=
  ⟨k0_pay169 v176 v178 v180 v188, k0_pay171 v176 v178 v183 v185 v187 v188, k0_pay173 v176 v178 v183 v185 v187 v188, k0_pay175 v176 v178 v183 v185 v187 v188, k0_pay177 v176 v178 v183 v185 v187 v188, k0_pay179 v176 v178 v183 v185 v187 v188, k0_pay181 v176 v178 v183 v185 v187 v188, k0_pay182 v176 v178 v183 v185 v187 v188, k0_pay183 v176 v178 v183 v185 v187 v188, k0_pay184 v176 v178 v183 v185 v187 v188, Scalar.ofBits .f32 0xFF800000#32⟩

abbrev T8 (F : FTy → Type) : Type := Σ' (v237 : VC F) (v243 : VC F) (v249 : VC F) (v255 : VC F) (v261 : VC F) (v267 : VC F) (v273 : VC F) (v278 : VK F), VC F
/-- The later ones of the sixteen largest candidates. -/
def p8 (v230 : VK F) (v234 : IVec S512x1280 1) (cst_36 : F .f32) : T8 F :=
  ⟨k0_pay186 v230 v234 cst_36, k0_pay188 v230 v234 cst_36, k0_pay190 v230 v234 cst_36, k0_pay192 v230 v234 cst_36, k0_pay194 v230 v234 cst_36, k0_pay196 v230 v234 cst_36, k0_pay198 v230 v234 cst_36, k0_pay199 v230 v234 cst_36, k0_pay200 v230 v234 cst_36⟩

abbrev T1 (F : FTy → Type) : Type := Σ' (v455 : VC F) (v461 : VC F) (v467 : VC F) (v473 : VC F) (v479 : VC F) (v485 : VC F) (v491 : VC F), VX F
/-- The first seven of the block's sixteen largest. -/
def p1 (X : VX F) : T1 F :=
  let v453 : VX F := (Memref.whole cc0_stg0_0 : Memref sig .tc .vmem S512x4096 .f32).view.readAt (Elt F) (Rect.unit (s := S512x4096) ![0, 0] S512x4096.size inb_S512x4096_S512x4096_0_0).toLoadRect X
  ⟨k0_pay3 v453, k0_pay5 v453, k0_pay7 v453, k0_pay9 v453, k0_pay11 v453, k0_pay13 v453, k0_pay15 v453, k0_pay16 v453⟩

abbrev T2 (F : FTy → Type) : Type := Σ' (v497 : VC F) (v503 : VC F) (v509 : VC F) (v515 : VC F) (v521 : VC F) (v527 : VC F) (v533 : VC F) (v538 : VX F) (v539 : VC F), VX F
/-- The later ones of the block's sixteen largest. -/
def p2 (v496 : VX F) : T2 F :=
  ⟨k0_pay17 v496, k0_pay19 v496, k0_pay21 v496, k0_pay23 v496, k0_pay25 v496, k0_pay27 v496, k0_pay29 v496, k0_pay30 v496, k0_pay31 v496, k0_pay32 v496⟩

abbrev T10 (F : FTy → Type) : Type := Σ' (v344 : VC F) (v349 : VS F) (v350 : VC F) (v353 : IVec S4x512x16 1), VS F
/-- The largest of the four slots. -/
def p10 (G : VS F) : T10 F :=
  let v343 : VS F := (Memref.whole cc0_scratch0 : Memref sig .tc .vmem S4x512x16 .f32).view.readAt (Elt F) (Rect.unit (s := S4x512x16) ![0, 0, 0] S4x512x16.size inb_S4x512x16_S4x512x16_0_0_0).toLoadRect G
  ⟨k0_pay206 v343, k0_pay207 v343, k0_pay208 v343, k0_pay209 v343, k0_pay210 (F := F)⟩

abbrev T11 (F : FTy → Type) : Type := Σ' (v356 : VC F) (v362 : VC F) (v368 : VC F) (v374 : VC F) (v380 : VC F) (v386 : VC F) (v392 : VC F) (v397 : VS F) (v398 : VC F), FVec F S1x512x1 .f32
/-- The next seven and more. -/
def p11 (v349 : VS F) (v353 : IVec S4x512x16 1) (v354 : VS F) : T11 F :=
  ⟨k0_pay212 v349 v353 v354, k0_pay214 v349 v353 v354, k0_pay216 v349 v353 v354, k0_pay218 v349 v353 v354, k0_pay220 v349 v353 v354, k0_pay222 v349 v353 v354, k0_pay224 v349 v353 v354, k0_pay225 v349 v353 v354, k0_pay226 v349 v353 v354, k0_pay227 v349 v353 v354⟩

abbrev T12 (F : FTy → Type) : Type := Σ' (v422 : VC F) (v428 : VC F) (v434 : VC F) (v435 : V1 F) (v436 : V1 F) (v437 : V1 F) (v438 : V1 F) (v439 : V1 F) (v440 : V1 F) (v441 : V1 F) (v442 : V1 F) (v443 : V1 F) (v444 : V1 F) (v445 : V1 F) (v446 : V1 F), V1 F
/-- The sixteen columns of the result. -/
def p12 (v344 : VC F) (v350 : VC F) (v356 : VC F) (v362 : VC F) (v368 : VC F) (v374 : VC F) (v380 : VC F) (v386 : VC F) (v392 : VC F) (v397 : VS F) (v398 : VC F) (v399 : FVec F S1x512x1 .f32) : T12 F :=
  ⟨k0_pay235 v397 v399, k0_pay237 v397 v399, k0_pay238 v397 v399, k0_pay239 v344, k0_pay240 v350, k0_pay241 v356, k0_pay242 v362, k0_pay243 v368, k0_pay244 v374, k0_pay245 v380, k0_pay246 v386, k0_pay247 v392, k0_pay248 v398, k0_pay249 v397 v399, k0_pay250 v397 v399, k0_pay251 v397 v399⟩

/-- The network's results on the block `X`, after three, eight, twelve and all sixteen slices. -/
def q3 (X : VX F) : T3 F := p3 X
def q4 (X : VX F) : T4 F := p4 X (q3 X).1 (q3 X).2.1 (q3 X).2.2
def q5 (X : VX F) : T5 F := p5 X (q4 X).1 (q4 X).2.1 (q4 X).2.2.1 (q4 X).2.2.2.1 (q4 X).2.2.2.2.1 (q4 X).2.2.2.2.2.1 (q4 X).2.2.2.2.2.2
def q6 (X : VX F) : T6 F := p6 X (q5 X).1 (q5 X).2.1 (q5 X).2.2.1 (q5 X).2.2.2.1 (q5 X).2.2.2.2.1 (q5 X).2.2.2.2.2.1 (q5 X).2.2.2.2.2.2
def q7 (X : VX F) : T7 F := p7 (q6 X).1 (q6 X).2.1 (q6 X).2.2.1 (q6 X).2.2.2.1 (q6 X).2.2.2.2.1 (q6 X).2.2.2.2.2.1 (q6 X).2.2.2.2.2.2
def q8 (X : VX F) : T8 F := p8 (q7 X).2.2.2.2.2.2.2.1 (q7 X).2.2.2.2.2.2.2.2.2.1 (q7 X).2.2.2.2.2.2.2.2.2.2
def q1 (X : VX F) : T1 F := p1 X
def q2 (X : VX F) : T2 F := p2 (q1 X).2.2.2.2.2.2.2

/-- Whether some lane's sixth largest reaches its row's sixteenth candidate. -/
def crowded (X : VX F) : BitVec 1 := Scalar.cmpf .ogt (k0_pay202 (q7 X).1 (q8 X).2.2.2.2.2.2.2.1 (q8 X).2.2.2.2.2.2.2.2) (Scalar.ofBits .f32 0x00000000#32)
/-- The sixteen largest of the candidates. -/
def fewStored (X : VX F) : FVec F S1x512x16 .f32 := k0_pay203 (q7 X).2.1 (q7 X).2.2.1 (q7 X).2.2.2.1 (q7 X).2.2.2.2.1 (q7 X).2.2.2.2.2.1 (q7 X).2.2.2.2.2.2.1 (q7 X).2.2.2.2.2.2.2.2.1 (q8 X).1 (q8 X).2.1 (q8 X).2.2.1 (q8 X).2.2.2.1 (q8 X).2.2.2.2.1 (q8 X).2.2.2.2.2.1 (q8 X).2.2.2.2.2.2.1 (q8 X).2.2.2.2.2.2.2.1 (q8 X).2.2.2.2.2.2.2.2
/-- The sixteen largest of the block. -/
def allStored (X : VX F) : FVec F S1x512x16 .f32 :=
  let v544 : VX F := k0_pay204 (q2 X).2.2.2.2.2.2.2.1 (cmpf .oeq (q2 X).2.2.2.2.2.2.2.1 (q2 X).2.2.2.2.2.2.2.2.2)
  k0_pay205 (q1 X).1 (q1 X).2.1 (q1 X).2.2.1 (q1 X).2.2.2.1 (q1 X).2.2.2.2.1 (q1 X).2.2.2.2.2.1 (q1 X).2.2.2.2.2.2.1 (q2 X).1 (q2 X).2.1 (q2 X).2.2.1 (q2 X).2.2.2.1 (q2 X).2.2.2.2.1 (q2 X).2.2.2.2.2.1 (q2 X).2.2.2.2.2.2.1 (q2 X).2.2.2.2.2.2.2.2.1 v544
/-- What a device holding the block `X` stores in its slot. -/
def stored (X : VX F) : FVec F S1x512x16 .f32 := if crowded X = 1#1 then allStored X else fewStored X
def q10 (G : VS F) : T10 F := p10 G
def q11 (G : VS F) : T11 F := p11 (q10 G).2.1 (q10 G).2.2.2.1 (q10 G).2.2.2.2
def q12 (G : VS F) : T12 F := p12 (q10 G).1 (q10 G).2.2.1 (q11 G).1 (q11 G).2.1 (q11 G).2.2.1 (q11 G).2.2.2.1 (q11 G).2.2.2.2.1 (q11 G).2.2.2.2.2.1 (q11 G).2.2.2.2.2.2.1 (q11 G).2.2.2.2.2.2.2.1 (q11 G).2.2.2.2.2.2.2.2.1 (q11 G).2.2.2.2.2.2.2.2.2
/-- The result made of the four slots `G`. -/
def merged (G : VS F) : FVec F S512x16 .f32 := k0_pay1 (q12 G).1 (q12 G).2.1 (q12 G).2.2.1 (q12 G).2.2.2.1 (q12 G).2.2.2.2.1 (q12 G).2.2.2.2.2.1 (q12 G).2.2.2.2.2.2.1 (q12 G).2.2.2.2.2.2.2.1 (q12 G).2.2.2.2.2.2.2.2.1 (q12 G).2.2.2.2.2.2.2.2.2.1 (q12 G).2.2.2.2.2.2.2.2.2.2.1 (q12 G).2.2.2.2.2.2.2.2.2.2.2.1 (q12 G).2.2.2.2.2.2.2.2.2.2.2.2.1 (q12 G).2.2.2.2.2.2.2.2.2.2.2.2.2.1 (q12 G).2.2.2.2.2.2.2.2.2.2.2.2.2.2.1 (q12 G).2.2.2.2.2.2.2.2.2.2.2.2.2.2.2

end Cert.TopK

end
-- ==== Proof.Steps.lean ====
/-
The steps of the body that touch other devices, one rule each, stated for any row position `t`: the conditional
signal, the wait on the barrier, the conditional copy with its wait, the conditional wait for a peer's copy. A step is
skipped at the device's own position, and what it needs there is nothing.
-/
module

public import proofs.«01_k».proof.Proof.Protocol

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Slots of the candidate buffer -/

omit [FloatOps F] in
theorem mem_slotR (s : Fin 4) (i : S4x512x16.Idx) : i ∈ (slotR s).set ↔ i 0 = s := by
  rw [Rect.mem_set_unit]
  constructor
  · intro h
    have h0 := h 0
    apply Fin.ext
    have e1 : (![s.val, 0, 0] : Fin 3 → ℕ) 0 = s.val := rfl
    have e2 : S1x512x16.size 0 = 1 := rfl
    rw [e1, e2] at h0; omega
  · rintro rfl a
    have := (i a).isLt
    fin_cases a
    · exact ⟨le_refl _, Nat.lt_succ_self _⟩
    · exact ⟨Nat.zero_le _, by simpa using this⟩
    · exact ⟨Nat.zero_le _, by simpa using this⟩
theorem slot_set (s : Fin 4) : (slotM s).view.set = (slotR s).set :=
  (Memref.set_view_squeeze _ _).trans (View.set_slice_whole _ _)

/-- The whole candidate buffer of device `c`. -/
abbrev scrPts (c : Dev nD) (f : S4x512x16.Idx → Elt F .f32) : sProp 𝕄 := (((c : Dev nD) : Thread nD τ).loc cc0_scratch0) ↦{fullShare} f

omit [FloatOps F] in
theorem scr_slots (c : Dev nD) (f : S4x512x16.Idx → Elt F .f32) : (scrPts c f : sProp 𝕄) = bigSep Finset.univ fun s => slotPts c s f := by
  have hd : ∀ s ∈ (Finset.univ : Finset (Fin 4)), ∀ s' ∈ (Finset.univ : Finset (Fin 4)), s ≠ s' → Disjoint (slotR s).set (slotR s').set := by
    intro s _ s' _ hne
    rw [Finset.disjoint_left]
    intro i h h'
    exact hne (((mem_slotR s i).mp h).symm.trans ((mem_slotR s' i).mp h'))
  have hu : (Finset.univ : Finset (Fin 4)).biUnion (fun s => (slotR s).set) = Finset.univ := by
    ext i
    simp only [Finset.mem_biUnion, Finset.mem_univ, true_and, iff_true]
    exact ⟨i 0, (mem_slotR _ i).mpr rfl⟩
  unfold scrPts
  have := pointsTo_biUnion (Ix := Unit) (Name := ℕ) (U := UU) (Lvl := ℕ) (q := fullShare) (ℓ := ((c : Dev nD) : Thread nD τ).loc cc0_scratch0) (f := f)
    (Finset.univ : Finset (Fin 4)) (fun s => (slotR s).set) hd
  rw [hu] at this
  refine this.trans (bigSep_congr fun s _ => ?_)
  exact congrArg (fun I : Finset S4x512x16.Idx => (((c : Dev nD) : Thread nD τ).loc cc0_scratch0 ↦[I]{fullShare} f : sProp 𝕄)) (slot_set s).symm

omit [FloatOps F] in
/-- A slot's share does not read the other slots. -/
theorem slot_congr (c : Dev nD) (s : Fin 4) {f g : S4x512x16.Idx → Elt F .f32} (h : ∀ i, i 0 = s → f i = g i) :
    (slotPts c s f : sProp 𝕄) = slotPts c s g := by
  exact pointsTo_congr fun i hi => h i ((mem_slotR s i).mp (by rw [← slot_set]; exact hi))

omit [FloatOps F] in
/-- Four separated pieces, one per row position. -/
theorem bigSep_four (Φ : Fin 4 → sProp 𝕄) : bigSep Finset.univ Φ = iprop(Φ 0 ∗ Φ 1 ∗ Φ 2 ∗ Φ 3) := by
  have h : (Finset.univ : Finset (Fin 4)) = insert 0 (insert 1 (insert 2 {3})) := by decide
  rw [h, bigSep_insert (by decide), bigSep_insert (by decide), bigSep_insert (by decide), bigSep_singleton]
  rfl

omit [FloatOps F] in
/-- The piece of one position, laid out over all of them. -/
theorem bigSep_only (y : Fin 4) (Φ : Fin 4 → sProp 𝕄) : bigSep Finset.univ (fun t => if y = t then Φ t else iprop(emp)) = Φ y := by
  rw [bigSep_univ_at _ y, if_pos rfl]
  rw [bigSep_congr (Ψ := fun _ => iprop(emp)) fun t ht => if_neg fun h => (Finset.mem_erase.mp ht).1 h.symm]
  exact (congrArg (fun Z => iprop(Φ y ∗ Z)) (bigSep_emp_const _)).trans (sep_emp_eq _)
omit [FloatOps F] in
/-- The pieces of all positions but one, laid out over all of them. -/
theorem bigSep_others (y : Fin 4) (Φ : Fin 4 → sProp 𝕄) :
    bigSep (Finset.univ.erase y) Φ = bigSep Finset.univ (fun t => if y = t then iprop(emp) else Φ t) := by
  rw [bigSep_univ_at _ y, if_pos rfl]
  rw [bigSep_congr (Ψ := Φ) fun t ht => if_neg fun h => (Finset.mem_erase.mp ht).1 h.symm]
  exact (emp_sep_eq _).symm

/-! ## The store into the own slot -/

variable (st : Dev nD → (S1x512x16.Idx → Elt F .f32))

omit [FloatOps F] in
theorem write_own (c : Dev nD) (f : S4x512x16.Idx → Elt F .f32) :
    (slotPts c (yc c) ((cM.access (slotR (yc c))).write (Elt F) f (st c) Finset.univ) : sProp 𝕄) = slotPts c (yc c) (full st c) := by
  refine slot_congr c _ fun i hi => ?_
  have hm : i ∈ (cM.access (slotR (yc c))).set := by
    rw [show (cM.access (slotR (yc c))).set = (slotR (yc c)).set from View.set_slice_whole _ _]; exact (mem_slotR _ i).mpr hi
  obtain ⟨x, -, rfl⟩ := Finset.mem_map.mp hm
  refine (View.write_emb_of_mem (v := cM.access (slotR (yc c))) f (st c) (Finset.mem_univ x)).trans ?_
  show st c x = st (peer c ((slotR (yc c)).emb x 0)) _
  have e : (slotR (yc c)).emb x 0 = yc c := hi
  rw [show peer c ((slotR (yc c)).emb x 0) = c from (congrArg (peer c) e).trans (peer_self c)]
  congr 1
  funext a
  apply Fin.ext
  fin_cases a
  · have := (x 0).isLt
    have e : S1x512x16.size 0 = 1 := rfl
    simp only [] at this ⊢
    show (x 0).val = 0
    exact Nat.lt_one_iff.mp this
  · exact (by rw [Rect.emb_apply]; show (x 1).val = 0 + 1 * (x 1).val; omega : (x 1).val = ((slotR (yc c)).emb x 1).val)
  · exact (by rw [Rect.emb_apply]; show (x 2).val = 0 + 1 * (x 2).val; omega : (x 2).val = ((slotR (yc c)).emb x 2).val)

omit [FloatOps F] in
/-- What a copy of slot `s` from `g` leaves there. -/
theorem write_copy (c : Dev nD) (s : Fin 4) (f g : S4x512x16.Idx → Elt F .f32) :
    (slotPts c s ((slotM s).view.write (Elt F) f ((slotM s).view.read (Elt F) g) Finset.univ) : sProp 𝕄) = slotPts c s g := by
  refine slot_congr c _ fun i hi => ?_
  rw [View.write_read_eq_piecewise]
  exact Finset.piecewise_eq_of_mem _ _ _ (by rw [View.setOn_univ, slot_set]; exact (mem_slotR s i).mpr hi)

/-! ## What every device knows: the cells' invariants and that round 0 is open -/

variable (K : Dev nD × Ck → ℕ)

def records : sProp 𝕄 :=
  bigSep Finset.univ fun ck : Dev nD × Ck => iprop(cellInv ER (Rd (F := F) st) (K ck) (kcell ck) ∗ reached ER (kcell ck) 0)

instance records_persistent : BI.Persistent (records st K) := by unfold records; infer_instance

omit [FloatOps F] in
theorem records_at (ck : Dev nD × Ck) : records st K ⊢ iprop(cellInv ER (Rd (F := F) st) (K ck) (kcell ck) ∗ reached ER (kcell ck) 0) := by
  unfold records; exact bigSep_elim (Finset.mem_univ ck)
omit [FloatOps F] in
theorem inv_at (ck : Dev nD × Ck) : records st K ⊢ cellInv ER (Rd (F := F) st) (K ck) (kcell ck) :=
  (records_at st K ck).trans sep_elim_left
omit [FloatOps F] in
theorem reached_at (ck : Dev nD × Ck) : records st K ⊢ (reached ER (kcell ck) 0 : sProp 𝕄) :=
  (records_at st K ck).trans sep_elim_right

/-- What a device owes, whatever it has waited on. -/
def owesE (c : Dev nD) (O : CellTallies nD τ sig Unit) : sProp 𝕄 := iprop(∃ W, owes (c : Thread nD τ) O W)

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Rules

variable {α : Type} {cnd : Prop} [Decidable cnd] {Q : α → sProp (MT nD τ sig Unit (Elt F) ℕ UU ℕ)}

/-- Asking for the device's own number. -/
theorem step_deviceId (c : Dev nD) (k : Dev nD → Prog (TpuEff nD τ sig (Elt F) Λ₀ .tc) α) : WP c (k c) Q ⊢ WP c (.op .deviceId k) Q :=
  Entails.of_eq (wp_deviceId ..).symm

/-! ### The signal -/

/-- What the signal to position `t` takes: the token for it, and the slot handed over. -/
def sigRes (c : Dev nD) (t : Fin 4) : sProp 𝕄 :=
  if yc c = t then iprop(emp) else iprop(dutyTok ER (barCell (peer c t)) 0 (yc c) ∗ ∃ f, slotPts c t f)

omit [FloatOps F] in
theorem mem_bar (c : Dev nD) (t : Fin 4) (hy : yc c ≠ t) : yc c ∈ (Rd (F := F) st).duties (barCell (peer c t)) 0 := by
  rw [duties_at]; exact Finset.mem_erase.mpr ⟨by rw [yc_peer]; exact hy, Finset.mem_univ _⟩
omit [FloatOps F] in
theorem pay_bar (c : Dev nD) (t : Fin 4) :
    iprop((∃ f, slotPts (F := F) c t f) ∗ reached ER (recvCell c t) 0) ⊢ (Rd (F := F) st).payload (barCell (peer c t)) 0 (yc c) := by
  rw [payload_at]
  show _ ⊢ iprop((∃ f, slotPts (F := F) (peer (peer c t) (yc c)) (yc (peer c t)) f) ∗ reached ER (recvCell (peer (peer c t) (yc c)) (yc (peer c t))) 0)
  rw [peer_back, yc_peer]

theorem step_signal (c : Dev nD) (t : Fin 4) (hc : cnd ↔ yc c ≠ t) (n : cnd → Dev nD) (hn : ∀ h, n h = peer c t)
    (O : CellTallies nD τ sig Unit) (B : Prog (TpuEff nD τ sig (Elt F) Λ₀ .tc) α) :
    iprop(records st K ∗ owesE c (O + oB c t) ∗ sigRes c t)
      ⊢ iprop((owesE c O -∗ WP c B Q)
          -∗ WP c (if h : cnd then .op (.semSignal (Dev.tc (n h) : Thread nD τ) barS (1#32).toInt) fun _ => B else B) Q) := by
  by_cases h : cnd
  · rw [dif_pos h]
    have hy := hc.mp h
    have e := hn h
    revert e; generalize n h = nn; rintro rfl
    rw [show (1#32).toInt = ((1 : ℕ) : ℤ) from by decide]
    unfold owesE sigRes oB
    rw [if_neg hy, if_neg hy]
    iintro ⟨#HR, ⟨%W, HO⟩, Ht, Hs⟩ Hk
    iapply (Rounds.wp_signal 𝒱₀ ER (Rd (F := F) st) (c : Thread nD τ) none (dst := (peer c t : Thread nD τ)) (κ := K (peer c t, none))
        (d := yc c) (mem_bar st c t hy)
        ((amount_at st (peer c t) none (yc c)).trans (by decide)) () O rfl) $$ [HO Ht Hs]
    · isplitr; · iapply (inv_at st K (peer c t, none)); iexact HR
      isplitl [HO]; · iexact HO
      isplitl [Ht]; · iexact Ht
      isplitl [Hs]
      · iapply (pay_bar st c t)
        isplitl [Hs]; · iexact Hs
        iapply (reached_at st K (c, some (true, t))); iexact HR
      iapply (reached_at st K (peer c t, none)); iexact HR
    iintro HO
    iapply Hk; iexists W; iexact HO
  · rw [dif_neg h]
    have hy : yc c = t := by by_contra hy; exact h (hc.mpr hy)
    unfold sigRes oB
    rw [if_pos hy, if_pos hy, add_zero]
    iintro ⟨-, HO, -⟩ Hk
    iapply Hk; iexact HO

/-! ### The wait on the barrier -/

/-- The slot of the peer at `t` into which `c` copies. -/
def landRes (c : Dev nD) (t : Fin 4) : sProp 𝕄 := if yc c = t then iprop(emp) else iprop(∃ f, slotPts (peer c t) (yc c) f)

theorem step_barrier (c : Dev nD) (B : PUnit → Prog (TpuEff nD τ sig (Elt F) Λ₀ .tc) α) :
    iprop(records st K ∗ levAts L lv ∗ owesE c (oRs c 0) ∗ cred (tallyAt (barCell c) () 3) ∗ atPos ER (barCell c) 0 ∅ 0)
      ⊢ iprop(((owesE c (oRs c 0) ∗ semVal (barCell c) 0 ∗ landRes c 0 ∗ landRes c 1 ∗ landRes c 2 ∗ landRes c 3) -∗ WP c (B ⟨⟩) Q)
          -∗ WP c (.op (.semWait barS (3#32).toInt) B) Q) := by
  rw [show (3#32).toInt = ((3 : ℕ) : ℤ) from by decide]
  unfold owesE
  iintro ⟨#HR, #Hlev, ⟨%W, HO⟩, HC, HA⟩ Hk
  iapply (Rounds.wp_wait_rest_token 𝒱₀ ER (Rd (F := F) st) (c : Thread nD τ) none (κ := K (c, none))
      (wpE_semWait_eq 𝒱₀ (c : Thread nD τ) none Set.univ) (Set.mem_univ _) () (O := oRs c 0) (W := W) (R := 0) (m := 0) (T := ∅)
      (by rw [expect_bar])) $$ [HC HO HA]
  · isplitr; · iapply (inv_at st K (c, none)); iexact HR
    isplitl [HC]; · iexact HC
    isplitl [HO]; · iexact HO
    isplitr; · iapply (mayWait_bar c); iexact Hlev
    iexact HA
  iintro ⟨HO, HA, -, Hp⟩
  have hp : bigSep ((Rd (F := F) st).duties (barCell c) 0 \ ∅) (fun d => (Rd (F := F) st).payload (barCell c) 0 d)
      ⊢ iprop(landRes c 0 ∗ landRes c 1 ∗ landRes c 2 ∗ landRes c 3) := by
    have e : ∀ d, (Rd (F := F) st).payload (barCell c) 0 d
        = iprop((∃ f, slotPts (F := F) (peer c d) (yc c) f) ∗ reached ER (recvCell (peer c d) (yc c)) 0) := fun d => payload_at st c none d
    rw [Finset.sdiff_empty, duties_at, bigSep_congr fun d _ => e d, show dut c none = Finset.univ.erase (yc c) from rfl,
      bigSep_others, bigSep_four]
    have h1 : ∀ t, (if yc c = t then iprop(emp) else iprop((∃ f, slotPts (F := F) (peer c t) (yc c) f) ∗ reached ER (recvCell (peer c t) (yc c)) 0))
        ⊢ landRes c t := fun t => by
      unfold landRes
      by_cases hy : yc c = t
      · rw [if_pos hy, if_pos hy]
      · rw [if_neg hy, if_neg hy]; exact sep_elim_left
    exact Laws.sep_mono (h1 0) (Laws.sep_mono (h1 1) (Laws.sep_mono (h1 2) (h1 3)))
  ihave Hp := hp $$ Hp
  imod (Rounds.cell_close ER (Rd (F := F) st) (Set.mem_univ (K (c, none))) (fun h => h) (R := 0 + 1) (duties_later st (barCell c))) $$ [HA] with Hz
  · isplitr; · iapply (inv_at st K (c, none)); iexact HR
    iexact HA
  iapply Hk
  isplitl [HO]; · iexists _; iexact HO
  isplitl [Hz]; · iexact Hz
  iexact Hp

/-! ### The copy to position `t` and the wait for its departure -/

/-- What the copy to position `t` takes. -/
def copyRes (c : Dev nD) (t : Fin 4) : sProp 𝕄 :=
  if yc c = t then iprop(emp)
  else iprop(dutyTok ER (sendCell c t) 0 (yc c) ∗ dutyTok ER (recvCell (peer c t) (yc c)) 0 (yc c))

set_option backward.proofsInPublic true in
/-- The copy and the wait, for any device, semaphore index and slot index. -/
abbrev copyProg (t : Fin 4) (n : Dev nD) (o₁ : Fin 1 → ℕ) (h₁ : ∀ a, o₁ a + S1.size a ≤ S4.size a)
    (o₃ : Fin 3 → ℕ) (h₃ : ∀ a, o₃ a + S1x512x16.size a ≤ S4x512x16.size a) (B : Prog (TpuEff nD τ sig (Elt F) Λ₀ .tc) α) :
    Prog (TpuEff nD τ sig (Elt F) Λ₀ .tc) α :=
  let m : Memref sig .tc .vmem S512x16 .f32 :=
    (cM.slice (Rect.unit (s := S4x512x16) o₃ S1x512x16.size h₃) (fun _ => rfl)).squeeze S512x16 squeezes_S1x512x16_S512x16
  .op (.enqueueDma m (.remote (Dev.tc n) m (.dma (sendS t))) (.dma ((cc0_scratch2.slice (Rect.unit (s := S4) o₁ S1.size h₁)).squeeze S_ squeezes_S1_S_).sem)
      ((View.wordExact_bits rfl).reshape _ _) ((View.wordExact_bits rfl).reshape _ _) ⟨⟨rfl, Or.inl rfl⟩, trivial⟩) fun _ =>
    .op (.waitDma2 (sendS t) m m ((View.wordExact_bits rfl).reshape _ _) ((View.wordExact_bits rfl).reshape _ _)) fun _ => B

omit [FloatOps F] in
theorem mem_send (c : Dev nD) (t : Fin 4) (hy : yc c ≠ t) : yc c ∈ (Rd (F := F) st).duties (sendCell c t) 0 := by
  rw [duties_at]; simp only [dut, if_neg hy]; exact Finset.mem_singleton_self _
omit [FloatOps F] in
theorem mem_recv (c : Dev nD) (t : Fin 4) (hy : yc c ≠ t) : yc c ∈ (Rd (F := F) st).duties (recvCell (peer c t) (yc c)) 0 := by
  rw [duties_at]; simp only [dut, yc_peer, if_neg (fun h => hy h.symm : ¬ t = yc c)]; exact Finset.mem_singleton_self _
omit [FloatOps F] in
theorem pay_send (c : Dev nD) (t : Fin 4) : (slotPts c (yc c) (full st c) : sProp 𝕄) ⊢ (Rd (F := F) st).payload (sendCell c t) 0 (yc c) := by
  rw [payload_at]; exact BI.Entails.refl _
omit [FloatOps F] in
theorem pay_recv (c : Dev nD) (t : Fin 4) (f : S4x512x16.Idx → Elt F .f32) :
    (slotPts (peer c t) (yc c) ((slotM (yc c)).view.write (Elt F) f ((slotM (yc c)).view.read (Elt F) (full st c)) Finset.univ) : sProp 𝕄)
      ⊢ (Rd (F := F) st).payload (recvCell (peer c t) (yc c)) 0 (yc c) := by
  rw [payload_at]; unfold pay; rw [full_peer]; exact Entails.of_eq (write_copy (peer c t) (yc c) f (full st c))

theorem step_copy (c : Dev nD) (t : Fin 4) (hc : cnd ↔ yc c ≠ t) (n : cnd → Dev nD) (hn : ∀ h, n h = peer c t)
    (o₁ : Fin 1 → ℕ) (h₁ : cnd → ∀ a, o₁ a + S1.size a ≤ S4.size a) (e₁ : o₁ = ![(yc c).val])
    (o₃ : Fin 3 → ℕ) (h₃ : cnd → ∀ a, o₃ a + S1x512x16.size a ≤ S4x512x16.size a) (e₃ : o₃ = ![(yc c).val, 0, 0])
    (O : CellTallies nD τ sig Unit) (hO : ∃ k, O = oRs c k) (B : Prog (TpuEff nD τ sig (Elt F) Λ₀ .tc) α) :
    iprop(records st K ∗ levAts L lv ∗ owesE c (O + oR c t) ∗ copyRes c t ∗ landRes c t ∗ slotPts c (yc c) (full st c) ∗ atPos ER (sendCell c t) 0 ∅ 0)
      ⊢ iprop(((owesE c O ∗ slotPts c (yc c) (full st c) ∗ semVal (sendCell c t) 0) -∗ WP c B Q)
          -∗ WP c (if h : cnd then copyProg t (n h) o₁ (h₁ h) o₃ (h₃ h) B else B) Q) := by
  by_cases h : cnd
  · rw [dif_pos h]
    have hy := hc.mp h
    subst e₁ e₃
    generalize h₁ h = h₁'
    generalize h₃ h = h₃'
    obtain ⟨k, rfl⟩ := hO
    have e := hn h
    revert e; generalize n h = nn; rintro rfl
    unfold owesE copyRes landRes oR
    rw [if_neg hy, if_neg hy, if_neg hy]
    iintro ⟨#HR, #Hlev, ⟨%W, HO⟩, ⟨Ht1, Ht2⟩, ⟨%fd, Hd⟩, Hs, HA⟩ Hk
    iapply (Rounds.wp_send_pointsTo 𝒱₀ ER (Rd (F := F) st) (c : Thread nD τ) none (c' := (peer c t : Thread nD τ)) (src := slotM (yc c)) (dst := slotM (yc c))
        (sS := .dma (sendS t)) (sem := .dma (recvS (yc c))) (κ₁ := K (c, some (false, t)))
        (κ₂ := K (peer c t, some (true, yc c))) (r₁ := 0) (r₂ := 0) (d₁ := yc c) (d₂ := yc c) (fd := fd) (fs := full st c)
        (mem_send st c t hy) (mem_recv st c t hy)
        () () N rfl (amount_at st c (some (false, t)) _) (amount_at st (peer c t) (some (true, yc c)) _) (oRs c k) rfl (W := W)
        (pay_send st c t) (pay_recv st c t fd)) $$ [Hs Hd HO Ht1 Ht2]
    · isplitr; · iapply (inv_at st K (c, some (false, t))); iexact HR
      isplitr; · iapply (inv_at st K (peer c t, some (true, yc c))); iexact HR
      isplitl [Hs]; · iexact Hs
      isplitl [Hd]; · iexact Hd
      isplitl [HO]; · iexact HO
      isplitl [Ht1]; · iexact Ht1
      isplitr; · iapply (reached_at st K (c, some (false, t))); iexact HR
      isplitl [Ht2]; · iexact Ht2
      iapply (reached_at st K (peer c t, some (true, yc c))); iexact HR
    iintro ⟨HC, HO⟩
    iapply (Rounds.wp_wait_rest_token 𝒱₀ ER (Rd (F := F) st) (c : Thread nD τ) none (κ := K (c, some (false, t)))
        (wpE_waitDma2_eq 𝒱₀ (c : Thread nD τ) none Set.univ) (Set.mem_univ _) () (O := oRs c k) (W := W) (R := 0) (m := 0) (T := ∅)
        (by rw [Nat.zero_add, expect_send st c t hy])) $$ [HC HO HA]
    · isplitr; · iapply (inv_at st K (c, some (false, t))); iexact HR
      isplitl [HC]; · iexact HC
      isplitl [HO]; · iexact HO
      isplitr; · iapply (mayWait_send c t k); iexact Hlev
      iexact HA
    iintro ⟨HO, HA, -, Hp⟩
    ihave Hs := (Entails.of_eq (rest_send st c t hy)) $$ Hp
    imod (Rounds.cell_close ER (Rd (F := F) st) (Set.mem_univ (K (c, some (false, t)))) (fun h => h) (R := 0 + 1) (duties_later st (sendCell c t))) $$ [HA] with Hz
    · isplitr; · iapply (inv_at st K (c, some (false, t))); iexact HR
      iexact HA
    iapply Hk
    isplitl [HO]; · iexists _; iexact HO
    isplitl [Hs]; · iexact Hs
    iexact Hz
  · rw [dif_neg h]
    have hy : yc c = t := by by_contra hy; exact h (hc.mpr hy)
    unfold copyRes landRes oR
    rw [if_pos hy, if_pos hy, if_pos hy, add_zero]
    iintro ⟨#HR, -, HO, -, -, Hs, HA⟩ Hk
    have hno : ∀ r, 0 ≤ r → (Rd (F := F) st).duties (sendCell c t) r = ∅ := fun r _ => by
      rcases Nat.eq_zero_or_pos r with rfl | hr
      · exact (duties_at st c _).trans (if_pos hy)
      · exact duties_later st _ r hr
    imod (Rounds.cell_close ER (Rd (F := F) st) (Set.mem_univ (K (c, some (false, t)))) (fun h => h) (R := 0) hno) $$ [HA] with Hz
    · isplitr; · iapply (inv_at st K (c, some (false, t))); iexact HR
      iexact HA
    iapply Hk
    isplitl [HO]; · iexact HO
    isplitl [Hs]; · iexact Hs
    iexact Hz

/-! ### The wait for the copy from position `s` -/

/-- What the wait takes: the credit for it, or at the own position the own slot. -/
def recvRes (c : Dev nD) (s : Fin 4) : sProp 𝕄 := if yc c = s then slotPts c s (full st c) else cred (tallyAt (recvCell c s) () N)

theorem step_recv (c : Dev nD) (s : Fin 4) (hc : cnd ↔ yc c ≠ s) {h₁ h₂} (B : Prog (TpuEff nD τ sig (Elt F) Λ₀ .tc) α) :
    iprop(records st K ∗ owesE c 0 ∗ recvRes st c s ∗ atPos ER (recvCell c s) 0 ∅ 0)
      ⊢ iprop(((owesE c 0 ∗ slotPts c s (full st c) ∗ semVal (recvCell c s) 0) -∗ WP c B Q)
          -∗ WP c (if h : cnd then .op (.waitDma2 (recvS s) (slotM s) (slotM s) h₁ h₂) fun _ => B else B) Q) := by
  by_cases h : cnd
  · rw [dif_pos h]
    have hy := hc.mp h
    unfold owesE recvRes
    rw [if_neg hy]
    iintro ⟨#HR, ⟨%W, HO⟩, HC, HA⟩ Hk
    iapply (Rounds.wp_wait_rest_token 𝒱₀ ER (Rd (F := F) st) (c : Thread nD τ) none (κ := K (c, some (true, s)))
        (wpE_waitDma2_eq 𝒱₀ (c : Thread nD τ) none Set.univ) (Set.mem_univ _) () (O := 0) (W := W) (R := 0) (m := 0) (T := ∅)
        (by rw [Nat.zero_add, expect_recv st c s hy])) $$ [HC HO HA]
    · isplitr; · iapply (inv_at st K (c, some (true, s))); iexact HR
      isplitl [HC]; · iexact HC
      isplitl [HO]; · iexact HO
      isplitr; · rw [MayWait_zero]; iempintro
      iexact HA
    iintro ⟨HO, HA, -, Hp⟩
    ihave Hs := (Entails.of_eq (rest_recv st c s hy)) $$ Hp
    imod (Rounds.cell_close ER (Rd (F := F) st) (Set.mem_univ (K (c, some (true, s)))) (fun h => h) (R := 0 + 1) (duties_later st (recvCell c s))) $$ [HA] with Hz
    · isplitr; · iapply (inv_at st K (c, some (true, s))); iexact HR
      iexact HA
    iapply Hk
    isplitl [HO]; · iexists _; iexact HO
    isplitl [Hs]; · iexact Hs
    iexact Hz
  · rw [dif_neg h]
    have hy : yc c = s := by by_contra hy; exact h (hc.mpr hy)
    unfold recvRes
    rw [if_pos hy]
    iintro ⟨#HR, HO, Hs, HA⟩ Hk
    have hno : ∀ r, 0 ≤ r → (Rd (F := F) st).duties (recvCell c s) r = ∅ := fun r _ => by
      rcases Nat.eq_zero_or_pos r with rfl | hr
      · exact (duties_at st c _).trans (if_pos hy)
      · exact duties_later st _ r hr
    imod (Rounds.cell_close ER (Rd (F := F) st) (Set.mem_univ (K (c, some (true, s)))) (fun h => h) (R := 0) hno) $$ [HA] with Hz
    · isplitr; · iapply (inv_at st K (c, some (true, s))); iexact HR
      iexact HA
    iapply Hk
    isplitl [HO]; · iexact HO
    isplitl [Hs]; · iexact Hs
    iexact Hz

end Rules

end Cert.TopK

end
-- ==== Proof.Body.lean ====
/-
One device's run of the body, piece by piece: from the staged block to its slot, through the exchange, to the result.
-/
module

public import proofs.«01_k».proof.Proof.Values
public import proofs.«01_k».proof.Proof.Steps

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The staged argument and the staged result of device `c`. -/
abbrev xPts (c : Dev nD) (X : VX F) : sProp 𝕄 := (((c : Dev nD) : Thread nD τ).loc cc0_stg0_0) ↦{fullShare} (X : Buf (Elt F) (((c : Dev nD) : Thread nD τ).loc cc0_stg0_0))
abbrev oPts (c : Dev nD) (Y : FVec F S512x16 .f32) : sProp 𝕄 := (((c : Dev nD) : Thread nD τ).loc cc0_stg1_0) ↦{fullShare} (Y : Buf (Elt F) (((c : Dev nD) : Thread nD τ).loc cc0_stg1_0))

theorem ne_iff_1 (c : Dev nD) : k0_cond1 c = 1#1 ↔ yc c ≠ 0 := by revert c; decide
theorem ne_iff_2 (c : Dev nD) : k0_cond2 c = 1#1 ↔ yc c ≠ 1 := by revert c; decide
theorem ne_iff_3 (c : Dev nD) : k0_cond3 c = 1#1 ↔ yc c ≠ 2 := by revert c; decide
theorem ne_iff_4 (c : Dev nD) : k0_cond4 c = 1#1 ↔ yc c ≠ 3 := by revert c; decide

variable (st : Dev nD → (S1x512x16.Idx → Elt F .f32)) (K : Dev nD × Ck → ℕ)

abbrev barArr : Sems sig S_ := SemArray.scalar (sig.barrier 0 rfl)
/-- The position along `y`, as the body computes it. -/
abbrev yWord (c : Dev nD) : BitVec 32 := Scalar.remsi (Scalar.divsi (Dev.word c) 4#32) 4#32

section Parts

variable {α : Type} {Q : α → sProp (MT nD τ sig Unit (Elt F) ℕ UU ℕ)}

/-- The last step: the result as computed is the one named. -/
theorem step_done (c : Dev nD) {b : α} (a : α) (h : a = b) : Q a ⊢ WP c (.ret b) Q := by
  subst h; exact fupd_intro.trans (Entails.of_eq (wp_ret ..).symm)

/-- A device number computed as the kernel computes it is that of a peer. -/
theorem dev_eq (c : Dev nD) (t : Fin 4) {n : ℕ} {hn : n < nD} (h : n = 16 * (c.val / 16) + c.val % 4 + 4 * t.val) : (⟨n, hn⟩ : Dev nD) = peer c t :=
  Fin.ext (h.trans (by show _ = 16 * (c.val / 16) + 4 * t.val + c.val % 4; omega))

/-- A load from the staged argument leaves it as it is. -/
theorem step_loadx (c : Dev nD) (X : VX F) {r : LoadRect S512x4096} {hl} (k : (r.shape.Idx → Elt F .f32) → Prog (TpuEff nD τ sig (Elt F) Λ₀ .tc) α) :
    (xPts c X : sProp (MT nD τ sig Unit (Elt F) ℕ UU ℕ)) ⊢ iprop((xPts c X -∗ WP c (k (xM.view.readAt (Elt F) r X)) Q) -∗ WP c (.op (.load xM r hl) k) Q) :=
  wp_load 𝒱₀ (c : Thread nD τ) none Set.univ (m := xM) (S := Finset.univ) (Finset.subset_univ _)

end Parts

theorem wp_part3 (c : Dev nD) (X : VX F) (Q : _ → sProp (MT nD τ sig Unit (Elt F) ℕ UU ℕ)) :
    iprop(records st K ∗ owesE c (oBs c 0) ∗ sigRes c 0 ∗ sigRes c 1 ∗ sigRes c 2 ∗ sigRes c 3 ∗ xPts c X)
      ⊢ iprop(((owesE c (oRs c 0) ∗ xPts c X) -∗ Q ⟨c, Scalar.remsi (Scalar.divsi (Dev.word c) 16#32) 2#32, yWord c,
              Scalar.remsi (Scalar.divsi (Dev.word c) 1#32) 4#32, barArr, (q3 X).1, (q3 X).2.1, (q3 X).2.2⟩)
          -∗ WP c (k0_part3 xM (Memref.isWhole_whole _) oM (Memref.isWhole_whole _) cM (Memref.isWhole_whole _) cc0_scratch1 cc0_scratch2) Q) := by
  rw [k0_part3_eq_skeleton]; unfold k0_part3_skel
  iintro ⟨#HR, HO, H0, H1, H2, H3, Hx⟩ Hk
  iapply (step_deviceId c)
  iapply (step_signal st K c 0 (ne_iff_1 c) (fun h => ⟨k0_dev1 c, k0_dev1_lt c h⟩) (fun h => dev_eq c 0 (k0_dev1_eq c)) (oBs c 1) _) $$ [HO H0]
  · isplitr; · iexact HR
    isplitl [HO]; · iexact HO
    iexact H0
  iintro HO
  iapply (step_signal st K c 1 (ne_iff_2 c) (fun h => ⟨k0_dev2 c, k0_dev2_lt c h⟩) (fun h => dev_eq c 1 (k0_dev2_eq c)) (oBs c 2) _) $$ [HO H1]
  · isplitr; · iexact HR
    isplitl [HO]; · iexact HO
    iexact H1
  iintro HO
  iapply (step_signal st K c 2 (ne_iff_3 c) (fun h => ⟨k0_dev3 c, k0_dev3_lt c h⟩) (fun h => dev_eq c 2 (k0_dev3_eq c)) (oBs c 3) _) $$ [HO H2]
  · isplitr; · iexact HR
    isplitl [HO]; · iexact HO
    iexact H2
  iintro HO
  iapply (step_signal st K c 3 (ne_iff_4 c) (fun h => ⟨k0_dev4 c, k0_dev4_lt c h⟩) (fun h => dev_eq c 3 (k0_dev4_eq c)) (oBs c 4) _) $$ [HO H3]
  · isplitr; · iexact HR
    isplitl [HO]; · iexact HO
    iexact H3
  iintro HO
  iapply (step_loadx c X _) $$ [Hx]; · iexact Hx
  iintro Hx
  iapply (step_loadx c X _) $$ [Hx]; · iexact Hx
  iintro Hx
  iapply (step_loadx c X _) $$ [Hx]; · iexact Hx
  iintro Hx
  iapply (step_done c (⟨c, Scalar.remsi (Scalar.divsi (Dev.word c) 16#32) 2#32, yWord c,
              Scalar.remsi (Scalar.divsi (Dev.word c) 1#32) 4#32, barArr, (q3 X).1, (q3 X).2.1, (q3 X).2.2⟩) (by rfl))
  iapply Hk
  isplitl [HO]; · iexact HO
  iexact Hx

set_option maxRecDepth 65536 in
theorem wp_part4 (c : Dev nD) (X : VX F) (Q : _ → sProp (MT nD τ sig Unit (Elt F) ℕ UU ℕ)) :
    (xPts c X : sProp (MT nD τ sig Unit (Elt F) ℕ UU ℕ))
      ⊢ iprop((xPts c X -∗ Q ⟨(q4 X).1, (q4 X).2.1, (q4 X).2.2.1, (q4 X).2.2.2.1, (q4 X).2.2.2.2.1, (q4 X).2.2.2.2.2.1, (q4 X).2.2.2.2.2.2⟩)
          -∗ WP c (k0_part4 xM (Memref.isWhole_whole _) oM (Memref.isWhole_whole _) cM (Memref.isWhole_whole _) cc0_scratch1 cc0_scratch2 (q3 X).1 (q3 X).2.1 (q3 X).2.2) Q) := by
  rw [k0_part4_eq_skeleton]; unfold k0_part4_skel
  iintro Hx Hk
  iapply (step_loadx c X _) $$ [Hx]; · iexact Hx
  iintro Hx
  iapply (step_loadx c X _) $$ [Hx]; · iexact Hx
  iintro Hx
  iapply (step_loadx c X _) $$ [Hx]; · iexact Hx
  iintro Hx
  iapply (step_loadx c X _) $$ [Hx]; · iexact Hx
  iintro Hx
  iapply (step_loadx c X _) $$ [Hx]; · iexact Hx
  iintro Hx
  iapply (step_done c (⟨(q4 X).1, (q4 X).2.1, (q4 X).2.2.1, (q4 X).2.2.2.1, (q4 X).2.2.2.2.1, (q4 X).2.2.2.2.2.1, (q4 X).2.2.2.2.2.2⟩ : T4 F) (by unfold q4 p4; with_reducible rfl))
  iapply Hk; iexact Hx

set_option maxRecDepth 65536 in
theorem wp_part5 (c : Dev nD) (X : VX F) (Q : _ → sProp (MT nD τ sig Unit (Elt F) ℕ UU ℕ)) :
    (xPts c X : sProp (MT nD τ sig Unit (Elt F) ℕ UU ℕ))
      ⊢ iprop((xPts c X -∗ Q ⟨(q5 X).1, (q5 X).2.1, (q5 X).2.2.1, (q5 X).2.2.2.1, (q5 X).2.2.2.2.1, (q5 X).2.2.2.2.2.1, (q5 X).2.2.2.2.2.2⟩)
          -∗ WP c (k0_part5 xM (Memref.isWhole_whole _) oM (Memref.isWhole_whole _) cM (Memref.isWhole_whole _) cc0_scratch1 cc0_scratch2 (q4 X).1 (q4 X).2.1 (q4 X).2.2.1 (q4 X).2.2.2.1 (q4 X).2.2.2.2.1 (q4 X).2.2.2.2.2.1 (q4 X).2.2.2.2.2.2) Q) := by
  rw [k0_part5_eq_skeleton]; unfold k0_part5_skel
  iintro Hx Hk
  iapply (step_loadx c X _) $$ [Hx]; · iexact Hx
  iintro Hx
  iapply (step_loadx c X _) $$ [Hx]; · iexact Hx
  iintro Hx
  iapply (step_loadx c X _) $$ [Hx]; · iexact Hx
  iintro Hx
  iapply (step_loadx c X _) $$ [Hx]; · iexact Hx
  iintro Hx
  iapply (step_done c (⟨(q5 X).1, (q5 X).2.1, (q5 X).2.2.1, (q5 X).2.2.2.1, (q5 X).2.2.2.2.1, (q5 X).2.2.2.2.2.1, (q5 X).2.2.2.2.2.2⟩ : T5 F) (by unfold q5 p5; with_reducible rfl))
  iapply Hk; iexact Hx

set_option maxRecDepth 65536 in
theorem wp_part6 (c : Dev nD) (X : VX F) (Q : _ → sProp (MT nD τ sig Unit (Elt F) ℕ UU ℕ)) :
    (xPts c X : sProp (MT nD τ sig Unit (Elt F) ℕ UU ℕ))
      ⊢ iprop((xPts c X -∗ Q ⟨(q6 X).1, (q6 X).2.1, (q6 X).2.2.1, (q6 X).2.2.2.1, (q6 X).2.2.2.2.1, (q6 X).2.2.2.2.2.1, (q6 X).2.2.2.2.2.2⟩)
          -∗ WP c (k0_part6 xM (Memref.isWhole_whole _) oM (Memref.isWhole_whole _) cM (Memref.isWhole_whole _) cc0_scratch1 cc0_scratch2 (q5 X).1 (q5 X).2.1 (q5 X).2.2.1 (q5 X).2.2.2.1 (q5 X).2.2.2.2.1 (q5 X).2.2.2.2.2.1 (q5 X).2.2.2.2.2.2) Q) := by
  rw [k0_part6_eq_skeleton]; unfold k0_part6_skel
  iintro Hx Hk
  iapply (step_loadx c X _) $$ [Hx]; · iexact Hx
  iintro Hx
  iapply (step_loadx c X _) $$ [Hx]; · iexact Hx
  iintro Hx
  iapply (step_loadx c X _) $$ [Hx]; · iexact Hx
  iintro Hx
  iapply (step_loadx c X _) $$ [Hx]; · iexact Hx
  iintro Hx
  iapply (step_done c (⟨(q6 X).1, (q6 X).2.1, (q6 X).2.2.1, (q6 X).2.2.2.1, (q6 X).2.2.2.2.1, (q6 X).2.2.2.2.2.1, (q6 X).2.2.2.2.2.2⟩ : T6 F) (by unfold q6 p6; with_reducible rfl))
  iapply Hk; iexact Hx

set_option maxRecDepth 65536 in
theorem wp_part1 (c : Dev nD) (X : VX F) (Q : _ → sProp (MT nD τ sig Unit (Elt F) ℕ UU ℕ)) :
    (xPts c X : sProp (MT nD τ sig Unit (Elt F) ℕ UU ℕ))
      ⊢ iprop((xPts c X -∗ Q ⟨(q1 X).1, (q1 X).2.1, (q1 X).2.2.1, (q1 X).2.2.2.1, (q1 X).2.2.2.2.1, (q1 X).2.2.2.2.2.1, (q1 X).2.2.2.2.2.2.1, (q1 X).2.2.2.2.2.2.2⟩)
          -∗ WP c (k0_part1 xM (Memref.isWhole_whole _) oM (Memref.isWhole_whole _) cM (Memref.isWhole_whole _) cc0_scratch1 cc0_scratch2 ) Q) := by
  rw [k0_part1_eq_skeleton]; unfold k0_part1_skel
  iintro Hx Hk
  iapply (step_loadx c X _) $$ [Hx]; · iexact Hx
  iintro Hx
  iapply (step_done c (⟨(q1 X).1, (q1 X).2.1, (q1 X).2.2.1, (q1 X).2.2.2.1, (q1 X).2.2.2.2.1, (q1 X).2.2.2.2.2.1, (q1 X).2.2.2.2.2.2.1, (q1 X).2.2.2.2.2.2.2⟩ : T1 F) (by unfold q1 p1; with_reducible rfl))
  iapply Hk; iexact Hx

set_option maxRecDepth 65536 in
theorem wp_part7 (c : Dev nD) (X : VX F) (Q : _ → sProp (MT nD τ sig Unit (Elt F) ℕ UU ℕ)) :
    Q ⟨(q7 X).1, (q7 X).2.1, (q7 X).2.2.1, (q7 X).2.2.2.1, (q7 X).2.2.2.2.1, (q7 X).2.2.2.2.2.1, (q7 X).2.2.2.2.2.2.1, (q7 X).2.2.2.2.2.2.2.1, (q7 X).2.2.2.2.2.2.2.2.1, (q7 X).2.2.2.2.2.2.2.2.2.1, (q7 X).2.2.2.2.2.2.2.2.2.2⟩ ⊢ WP c (k0_part7 xM (Memref.isWhole_whole _) oM (Memref.isWhole_whole _) cM (Memref.isWhole_whole _) cc0_scratch1 cc0_scratch2 (q6 X).1 (q6 X).2.1 (q6 X).2.2.1 (q6 X).2.2.2.1 (q6 X).2.2.2.2.1 (q6 X).2.2.2.2.2.1 (q6 X).2.2.2.2.2.2) Q := by
  rw [k0_part7_eq_skeleton]; unfold k0_part7_skel
  exact step_done c (⟨(q7 X).1, (q7 X).2.1, (q7 X).2.2.1, (q7 X).2.2.2.1, (q7 X).2.2.2.2.1, (q7 X).2.2.2.2.2.1, (q7 X).2.2.2.2.2.2.1, (q7 X).2.2.2.2.2.2.2.1, (q7 X).2.2.2.2.2.2.2.2.1, (q7 X).2.2.2.2.2.2.2.2.2.1, (q7 X).2.2.2.2.2.2.2.2.2.2⟩ : T7 F) (by unfold q7 p7; with_reducible rfl)

set_option maxRecDepth 65536 in
theorem wp_part8 (c : Dev nD) (X : VX F) (Q : _ → sProp (MT nD τ sig Unit (Elt F) ℕ UU ℕ)) :
    Q ⟨(q8 X).1, (q8 X).2.1, (q8 X).2.2.1, (q8 X).2.2.2.1, (q8 X).2.2.2.2.1, (q8 X).2.2.2.2.2.1, (q8 X).2.2.2.2.2.2.1, (q8 X).2.2.2.2.2.2.2.1, (q8 X).2.2.2.2.2.2.2.2⟩ ⊢ WP c (k0_part8 xM (Memref.isWhole_whole _) oM (Memref.isWhole_whole _) cM (Memref.isWhole_whole _) cc0_scratch1 cc0_scratch2 (q7 X).2.2.2.2.2.2.2.1 (q7 X).2.2.2.2.2.2.2.2.2.1 (q7 X).2.2.2.2.2.2.2.2.2.2) Q := by
  rw [k0_part8_eq_skeleton]; unfold k0_part8_skel
  exact step_done c (⟨(q8 X).1, (q8 X).2.1, (q8 X).2.2.1, (q8 X).2.2.2.1, (q8 X).2.2.2.2.1, (q8 X).2.2.2.2.2.1, (q8 X).2.2.2.2.2.2.1, (q8 X).2.2.2.2.2.2.2.1, (q8 X).2.2.2.2.2.2.2.2⟩ : T8 F) (by unfold q8 p8; with_reducible rfl)

set_option maxRecDepth 65536 in
theorem wp_part2 (c : Dev nD) (X : VX F) (Q : _ → sProp (MT nD τ sig Unit (Elt F) ℕ UU ℕ)) :
    Q ⟨(q2 X).1, (q2 X).2.1, (q2 X).2.2.1, (q2 X).2.2.2.1, (q2 X).2.2.2.2.1, (q2 X).2.2.2.2.2.1, (q2 X).2.2.2.2.2.2.1, (q2 X).2.2.2.2.2.2.2.1, (q2 X).2.2.2.2.2.2.2.2.1, (q2 X).2.2.2.2.2.2.2.2.2⟩ ⊢ WP c (k0_part2 xM (Memref.isWhole_whole _) oM (Memref.isWhole_whole _) cM (Memref.isWhole_whole _) cc0_scratch1 cc0_scratch2 (q1 X).2.2.2.2.2.2.2) Q := by
  rw [k0_part2_eq_skeleton]; unfold k0_part2_skel
  exact step_done c (⟨(q2 X).1, (q2 X).2.1, (q2 X).2.2.1, (q2 X).2.2.2.1, (q2 X).2.2.2.2.1, (q2 X).2.2.2.2.2.1, (q2 X).2.2.2.2.2.2.1, (q2 X).2.2.2.2.2.2.2.1, (q2 X).2.2.2.2.2.2.2.2.1, (q2 X).2.2.2.2.2.2.2.2.2⟩ : T2 F) (by unfold q2 p2; with_reducible rfl)

set_option maxRecDepth 65536 in
theorem wp_part11 (c : Dev nD) (G : VS F) (Q : _ → sProp (MT nD τ sig Unit (Elt F) ℕ UU ℕ)) :
    Q ⟨(q11 G).1, (q11 G).2.1, (q11 G).2.2.1, (q11 G).2.2.2.1, (q11 G).2.2.2.2.1, (q11 G).2.2.2.2.2.1, (q11 G).2.2.2.2.2.2.1, (q11 G).2.2.2.2.2.2.2.1, (q11 G).2.2.2.2.2.2.2.2.1, (q11 G).2.2.2.2.2.2.2.2.2⟩ ⊢ WP c (k0_part11 xM (Memref.isWhole_whole _) oM (Memref.isWhole_whole _) cM (Memref.isWhole_whole _) cc0_scratch1 cc0_scratch2 (q10 G).2.1 (q10 G).2.2.2.1 (q10 G).2.2.2.2) Q := by
  rw [k0_part11_eq_skeleton]; unfold k0_part11_skel
  exact step_done c (⟨(q11 G).1, (q11 G).2.1, (q11 G).2.2.1, (q11 G).2.2.2.1, (q11 G).2.2.2.2.1, (q11 G).2.2.2.2.2.1, (q11 G).2.2.2.2.2.2.1, (q11 G).2.2.2.2.2.2.2.1, (q11 G).2.2.2.2.2.2.2.2.1, (q11 G).2.2.2.2.2.2.2.2.2⟩ : T11 F) (by unfold q11 p11; with_reducible rfl)

set_option maxRecDepth 65536 in
theorem wp_part12 (c : Dev nD) (G : VS F) (Q : _ → sProp (MT nD τ sig Unit (Elt F) ℕ UU ℕ)) :
    Q ⟨(q12 G).1, (q12 G).2.1, (q12 G).2.2.1, (q12 G).2.2.2.1, (q12 G).2.2.2.2.1, (q12 G).2.2.2.2.2.1, (q12 G).2.2.2.2.2.2.1, (q12 G).2.2.2.2.2.2.2.1, (q12 G).2.2.2.2.2.2.2.2.1, (q12 G).2.2.2.2.2.2.2.2.2.1, (q12 G).2.2.2.2.2.2.2.2.2.2.1, (q12 G).2.2.2.2.2.2.2.2.2.2.2.1, (q12 G).2.2.2.2.2.2.2.2.2.2.2.2.1, (q12 G).2.2.2.2.2.2.2.2.2.2.2.2.2.1, (q12 G).2.2.2.2.2.2.2.2.2.2.2.2.2.2.1, (q12 G).2.2.2.2.2.2.2.2.2.2.2.2.2.2.2⟩ ⊢ WP c (k0_part12 xM (Memref.isWhole_whole _) oM (Memref.isWhole_whole _) cM (Memref.isWhole_whole _) cc0_scratch1 cc0_scratch2 (q10 G).1 (q10 G).2.2.1 (q11 G).1 (q11 G).2.1 (q11 G).2.2.1 (q11 G).2.2.2.1 (q11 G).2.2.2.2.1 (q11 G).2.2.2.2.2.1 (q11 G).2.2.2.2.2.2.1 (q11 G).2.2.2.2.2.2.2.1 (q11 G).2.2.2.2.2.2.2.2.1 (q11 G).2.2.2.2.2.2.2.2.2) Q := by
  rw [k0_part12_eq_skeleton]; unfold k0_part12_skel
  exact step_done c (⟨(q12 G).1, (q12 G).2.1, (q12 G).2.2.1, (q12 G).2.2.2.1, (q12 G).2.2.2.2.1, (q12 G).2.2.2.2.2.1, (q12 G).2.2.2.2.2.2.1, (q12 G).2.2.2.2.2.2.2.1, (q12 G).2.2.2.2.2.2.2.2.1, (q12 G).2.2.2.2.2.2.2.2.2.1, (q12 G).2.2.2.2.2.2.2.2.2.2.1, (q12 G).2.2.2.2.2.2.2.2.2.2.2.1, (q12 G).2.2.2.2.2.2.2.2.2.2.2.2.1, (q12 G).2.2.2.2.2.2.2.2.2.2.2.2.2.1, (q12 G).2.2.2.2.2.2.2.2.2.2.2.2.2.2.1, (q12 G).2.2.2.2.2.2.2.2.2.2.2.2.2.2.2⟩ : T12 F) (by unfold q12 p12; with_reducible rfl)

end Cert.TopK

end
-- ==== Proof.Exchange.lean ====
/-
The pieces of one device's run that touch its slot and the other devices: storing its candidates, the copies out, the
copies in, and reading the four slots.
-/
module

public import proofs.«01_k».proof.Proof.Body

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (st : Dev nD → (S1x512x16.Idx → Elt F .f32)) (K : Dev nD × Ck → ℕ)

section Steps

variable {α : Type} {Q : α → sProp (MT nD τ sig Unit (Elt F) ℕ UU ℕ)}

theorem step_bind (c : Dev nD) {β : Type} (p : Prog (TpuEff nD τ sig (Elt F) Λ₀ .tc) β) (k : β → Prog (TpuEff nD τ sig (Elt F) Λ₀ .tc) α) :
    WP c p (fun a => WP c (k a) Q) ⊢ WP c (p >>= k) Q :=
  Entails.of_eq (wp_bind ..).symm

theorem step_take (c : Dev nD) {cnd : Prop} [Decidable cnd] (h : cnd) (A B : Prog (TpuEff nD τ sig (Elt F) Λ₀ .tc) α) :
    WP c A Q ⊢ WP c (if cnd then A else B) Q := by rw [if_pos h]
theorem step_skip (c : Dev nD) {cnd : Prop} [Decidable cnd] (h : ¬ cnd) (A B : Prog (TpuEff nD τ sig (Elt F) Λ₀ .tc) α) :
    WP c B Q ⊢ WP c (if cnd then A else B) Q := by rw [if_neg h]

/-- The store of a device's candidates into its own slot, after the load the store comes with. -/
theorem step_stores (c : Dev nD) (f : S4x512x16.Idx → Elt F .f32) (o : Fin 3 → ℕ) (ho : o = ![(yc c).val, 0, 0])
    (hb : ∀ a, o a + S1x512x16.size a ≤ S4x512x16.size a) (w : S1x512x16.Idx → Elt F .f32) (hw : st c = w) {hl hx hm}
    (k : PUnit → Prog (TpuEff nD τ sig (Elt F) Λ₀ .tc) α) :
    (slotPts c (yc c) f : sProp (MT nD τ sig Unit (Elt F) ℕ UU ℕ))
      ⊢ iprop((slotPts c (yc c) (full st c) -∗ WP c (k ⟨⟩) Q)
          -∗ WP c (.op (.load cM (Rect.unit (s := S4x512x16) o S1x512x16.size hb).toLoadRect hl) fun _ =>
              .op (.store cM (Rect.unit (s := S4x512x16) o S1x512x16.size hb) w Finset.univ hx hm) k) Q) := by
  subst ho hw
  have hs : (cM.access (slotR (yc c))).set = (slotM (yc c)).view.set := (View.set_slice_whole _ _).trans (slot_set _).symm
  iintro Hs Hk
  iapply (wp_load_rect 𝒱₀ (c : Thread nD τ) none Set.univ (m := cM) (r := slotR (yc c)) (S := (slotM (yc c)).view.set) (f := f) (by rw [hs])) $$ [Hs]
  · iexact Hs
  iintro Hs
  iapply (wp_store 𝒱₀ (c : Thread nD τ) none Set.univ (m := cM) (r := slotR (yc c)) (Mk := Finset.univ) (S := (slotM (yc c)).view.set) (f := f) (by rw [View.setOn_univ, hs])) $$ [Hs]
  · iexact Hs
  iintro Hs
  iapply Hk
  iapply (Entails.of_eq (write_own st c f))
  iexact Hs

end Steps

theorem ne_iff_7 (c : Dev nD) : k0_cond7 c = 1#1 ↔ yc c ≠ 0 := by revert c; decide
theorem ne_iff_8 (c : Dev nD) : k0_cond8 c = 1#1 ↔ yc c ≠ 1 := by revert c; decide
theorem ne_iff_9 (c : Dev nD) : k0_cond9 c = 1#1 ↔ yc c ≠ 2 := by revert c; decide
theorem ne_iff_10 (c : Dev nD) : k0_cond10 c = 1#1 ↔ yc c ≠ 3 := by revert c; decide
theorem ne_iff_recv (c : Dev nD) (s : Fin 4) :
    Scalar.cmpi .ne (Scalar.extui (Scalar.cmpi .ne (yWord c) (BitVec.ofNat 32 s.val)) : BitVec 32) 0#32 = 1#1 ↔ yc c ≠ s := by revert c s; decide

/-- One word is stored in one case and the other in the other. -/
theorem skip_of_one (b : BitVec 1) (h : b = 1#1) : ¬ Scalar.cmpi .ne (Scalar.extui (Scalar.xori b 1#1) : BitVec 32) 0#32 = 1#1 := by subst h; decide
theorem take_of_one (b : BitVec 1) (h : b = 1#1) : Scalar.cmpi .ne (Scalar.extui b : BitVec 32) 0#32 = 1#1 := by subst h; decide
theorem take_of_ne (b : BitVec 1) (h : ¬ b = 1#1) : Scalar.cmpi .ne (Scalar.extui (Scalar.xori b 1#1) : BitVec 32) 0#32 = 1#1 := by revert b; decide
theorem skip_of_ne (b : BitVec 1) (h : ¬ b = 1#1) : ¬ Scalar.cmpi .ne (Scalar.extui b : BitVec 32) 0#32 = 1#1 := by revert b; decide

section Meet

variable {α : Type} {Q : α → sProp (MT nD τ sig Unit (Elt F) ℕ UU ℕ)}

/-- The wait on the barrier and the first copy. -/
theorem step_meet (c : Dev nD) (B : Prog (TpuEff nD τ sig (Elt F) Λ₀ .tc) α) :
    iprop(records st K ∗ levAts L lv ∗ owesE c (oRs c 0) ∗ cred (tallyAt (barCell c) () 3) ∗ atPos ER (barCell c) 0 ∅ 0
        ∗ copyRes c 0 ∗ atPos ER (sendCell c 0) 0 ∅ 0 ∗ slotPts c (yc c) (full st c))
      ⊢ iprop(((owesE c (oRs c 1) ∗ semVal (barCell c) 0 ∗ landRes c 1 ∗ landRes c 2 ∗ landRes c 3 ∗ semVal (sendCell c 0) 0
              ∗ slotPts c (yc c) (full st c)) -∗ WP c B Q)
          -∗ WP c (.op (.semWait barS (3#32).toInt) fun _ =>
              if h : k0_cond7 c = 1#1 then copyProg 0 ⟨k0_dev5 c, k0_dev5_lt c h⟩ (k0_off3 c) (k0_off3_inb c h) (k0_off4 c) (k0_off4_inb c h) B else B) Q) := by
  iintro ⟨#HR, #Hlev, HO, HC, HA, Hc0, HA0, Hs⟩ Hk
  iapply (step_barrier st K c _) $$ [HO HC HA]
  · isplitr; · iexact HR
    isplitr; · iexact Hlev
    isplitl [HO]; · iexact HO
    isplitl [HC]; · iexact HC
    iexact HA
  iintro ⟨HO, Hz, Hl0, Hl⟩
  iapply (step_copy st K c 0 (ne_iff_7 c) (fun h => ⟨k0_dev5 c, k0_dev5_lt c h⟩) (fun h => dev_eq c 0 (k0_dev5_eq c)) (k0_off3 c) (k0_off3_inb c)
    (k0_off3_eq c) (k0_off4 c) (k0_off4_inb c) (k0_off4_eq c) (oRs c 1) ⟨1, rfl⟩ B) $$ [HO Hc0 Hl0 Hs HA0]
  · isplitr; · iexact HR
    isplitr; · iexact Hlev
    isplitl [HO]; · iexact HO
    isplitl [Hc0]; · iexact Hc0
    isplitl [Hl0]; · iexact Hl0
    isplitl [Hs]; · iexact Hs
    iexact HA0
  iintro ⟨HO, Hs, Hz0⟩
  iapply Hk
  icases Hl with ⟨Hl1, Hl2, Hl3⟩
  isplitl [HO]; · iexact HO
  isplitl [Hz]; · iexact Hz
  isplitl [Hl1]; · iexact Hl1
  isplitl [Hl2]; · iexact Hl2
  isplitl [Hl3]; · iexact Hl3
  isplitl [Hz0]; · iexact Hz0
  iexact Hs

end Meet

/-- From the comparison to the departure of the first copy. -/
theorem wp_part9 (c : Dev nD) (X : VX F) (hst : st c = stored X) (f : S4x512x16.Idx → Elt F .f32) (v2 v8 : BitVec 32) (Q : _ → sProp (MT nD τ sig Unit (Elt F) ℕ UU ℕ)) :
    iprop(records st K ∗ levAts L lv ∗ owesE c (oRs c 0) ∗ cred (tallyAt (barCell c) () 3) ∗ atPos ER (barCell c) 0 ∅ 0
        ∗ copyRes c 0 ∗ atPos ER (sendCell c 0) 0 ∅ 0 ∗ slotPts c (yc c) f ∗ xPts c X)
      ⊢ iprop(((owesE c (oRs c 1) ∗ semVal (barCell c) 0 ∗ landRes c 1 ∗ landRes c 2 ∗ landRes c 3 ∗ semVal (sendCell c 0) 0
              ∗ slotPts c (yc c) (full st c) ∗ xPts c X) -∗ Q 1#32)
          -∗ WP c (k0_part9 xM (Memref.isWhole_whole _) oM (Memref.isWhole_whole _) cM (Memref.isWhole_whole _) cc0_scratch1 cc0_scratch2 c v2 (yWord c) v8 barArr (q7 X).1 (q7 X).2.1 (q7 X).2.2.1 (q7 X).2.2.2.1 (q7 X).2.2.2.2.1 (q7 X).2.2.2.2.2.1 (q7 X).2.2.2.2.2.2.1 (q7 X).2.2.2.2.2.2.2.2.1 (q8 X).1 (q8 X).2.1 (q8 X).2.2.1 (q8 X).2.2.2.1 (q8 X).2.2.2.2.1 (q8 X).2.2.2.2.2.1 (q8 X).2.2.2.2.2.2.1 (q8 X).2.2.2.2.2.2.2.1 (q8 X).2.2.2.2.2.2.2.2) Q) := by
  rw [k0_part9_eq_skeleton]; unfold k0_part9_skel
  iintro ⟨#HR, #Hlev, HO, HC, HA, Hc0, HA0, Hs, Hx⟩ Hk
  by_cases h : crowded X = 1#1
  · have hw : st c = allStored X := hst.trans (if_pos h)
    iapply (step_skip c (skip_of_one _ h) _ _)
    iapply (step_take c (take_of_one _ h) _ _)
    iapply (step_bind c _ _)
    iapply (wp_part1 c X _) $$ [Hx]; · iexact Hx
    iintro Hx
    iapply (step_bind c _ _)
    iapply (wp_part2 c X _)
    iapply (step_stores st c f _ (k0_off2_eq c) _ _ hw _) $$ [Hs]; · iexact Hs
    iintro Hs
    iapply (step_meet st K c _) $$ [HO HC HA Hc0 HA0 Hs]
    · isplitr; · iexact HR
      isplitr; · iexact Hlev
      isplitl [HO]; · iexact HO
      isplitl [HC]; · iexact HC
      isplitl [HA]; · iexact HA
      isplitl [Hc0]; · iexact Hc0
      isplitl [HA0]; · iexact HA0
      iexact Hs
    iintro ⟨HO, Hz, Hl1, Hl2, Hl3, Hz0, Hs⟩
    iapply (step_done c (1#32) (by rfl))
    iapply Hk
    isplitl [HO]; · iexact HO
    isplitl [Hz]; · iexact Hz
    isplitl [Hl1]; · iexact Hl1
    isplitl [Hl2]; · iexact Hl2
    isplitl [Hl3]; · iexact Hl3
    isplitl [Hz0]; · iexact Hz0
    isplitl [Hs]; · iexact Hs
    iexact Hx
  · have hw : st c = fewStored X := hst.trans (if_neg h)
    iapply (step_take c (take_of_ne _ h) _ _)
    iapply (step_stores st c f _ (k0_off1_eq c) _ _ hw _) $$ [Hs]; · iexact Hs
    iintro Hs
    iapply (step_skip c (skip_of_ne _ h) _ _)
    iapply (step_meet st K c _) $$ [HO HC HA Hc0 HA0 Hs]
    · isplitr; · iexact HR
      isplitr; · iexact Hlev
      isplitl [HO]; · iexact HO
      isplitl [HC]; · iexact HC
      isplitl [HA]; · iexact HA
      isplitl [Hc0]; · iexact Hc0
      isplitl [HA0]; · iexact HA0
      iexact Hs
    iintro ⟨HO, Hz, Hl1, Hl2, Hl3, Hz0, Hs⟩
    iapply (step_done c (1#32) (by rfl))
    iapply Hk
    isplitl [HO]; · iexact HO
    isplitl [Hz]; · iexact Hz
    isplitl [Hl1]; · iexact Hl1
    isplitl [Hl2]; · iexact Hl2
    isplitl [Hl3]; · iexact Hl3
    isplitl [Hz0]; · iexact Hz0
    isplitl [Hs]; · iexact Hs
    iexact Hx

/-- The credit for the copy from position `s`, where there is one. -/
def recvCred (c : Dev nD) (s : Fin 4) : sProp (MT nD τ sig Unit (Elt F) ℕ UU ℕ) := if yc c = s then iprop(emp) else cred (tallyAt (recvCell c s) () N)

omit [FloatOps F] in
/-- The own slot and the credits are what the four waits take. -/
theorem recv_split (c : Dev nD) :
    iprop(slotPts c (yc c) (full st c) ∗ recvCred c 0 ∗ recvCred c 1 ∗ recvCred c 2 ∗ recvCred c 3)
      ⊢ iprop(recvRes st c 0 ∗ recvRes st c 1 ∗ recvRes st c 2 ∗ recvRes (F := F) st c 3) := by
  have h : ∀ y, y = yc c → iprop(slotPts c y (full st c) ∗ bigSep Finset.univ fun s => recvCred (F := F) c s) ⊢ bigSep Finset.univ fun s => recvRes st c s := by
    rintro y rfl
    rw [← bigSep_only (yc c) fun s => slotPts (F := F) c s (full st c), ← bigSep_sep']
    refine bigSep_mono fun s _ => ?_
    unfold recvCred recvRes
    by_cases hy : yc c = s
    · rw [if_pos hy, if_pos hy, if_pos hy]; exact Entails.of_eq (sep_emp_eq _)
    · rw [if_neg hy, if_neg hy, if_neg hy]; exact Entails.of_eq (emp_sep_eq _)
  have := h _ rfl
  rw [bigSep_four, bigSep_four] at this
  exact this

set_option maxRecDepth 65536 in
/-- The other copies, the waits for those of the peers, and the reading of the four slots. -/
theorem wp_part10 (c : Dev nD) (v2 v8 w : BitVec 32) (Q : _ → sProp (MT nD τ sig Unit (Elt F) ℕ UU ℕ)) :
    iprop(records st K ∗ levAts L lv ∗ owesE c (oRs c 1) ∗ (copyRes c 1 ∗ copyRes c 2 ∗ copyRes c 3)
        ∗ (landRes c 1 ∗ landRes c 2 ∗ landRes c 3)
        ∗ (atPos ER (sendCell c 1) 0 ∅ 0 ∗ atPos ER (sendCell c 2) 0 ∅ 0 ∗ atPos ER (sendCell c 3) 0 ∅ 0) ∗ slotPts c (yc c) (full st c)
        ∗ (recvCred c 0 ∗ recvCred c 1 ∗ recvCred c 2 ∗ recvCred c 3)
        ∗ (atPos ER (recvCell c 0) 0 ∅ 0 ∗ atPos ER (recvCell c 1) 0 ∅ 0 ∗ atPos ER (recvCell c 2) 0 ∅ 0 ∗ atPos ER (recvCell c 3) 0 ∅ 0))
      ⊢ iprop(((owesE c 0 ∗ (semVal (sendCell c 1) 0 ∗ semVal (sendCell c 2) 0 ∗ semVal (sendCell c 3) 0)
              ∗ (semVal (recvCell c 0) 0 ∗ semVal (recvCell c 1) 0 ∗ semVal (recvCell c 2) 0 ∗ semVal (recvCell c 3) 0) ∗ scrPts c (full st c))
              -∗ Q ⟨(q10 (full st c)).1, (q10 (full st c)).2.1, (q10 (full st c)).2.2.1, (q10 (full st c)).2.2.2.1, (q10 (full st c)).2.2.2.2⟩)
          -∗ WP c (k0_part10 xM (Memref.isWhole_whole _) oM (Memref.isWhole_whole _) cM (Memref.isWhole_whole _) cc0_scratch1 cc0_scratch2 c v2 (yWord c) v8 w) Q) := by
  rw [k0_part10_eq_skeleton]; unfold k0_part10_skel
  iintro ⟨#HR, #Hlev, HO, ⟨Hc1, Hc2, Hc3⟩, ⟨Hl1, Hl2, Hl3⟩, ⟨HA1, HA2, HA3⟩, Hs, Hcr, ⟨HB0, HB1, HB2, HB3⟩⟩ Hk
  iapply (step_copy st K c 1 (ne_iff_8 c) (fun h => ⟨k0_dev6 c, k0_dev6_lt c h⟩) (fun h => dev_eq c 1 (k0_dev6_eq c)) (k0_off5 c) (k0_off5_inb c)
    (k0_off5_eq c) (k0_off6 c) (k0_off6_inb c) (k0_off6_eq c) (oRs c 2) ⟨2, rfl⟩ _) $$ [HO Hc1 Hl1 Hs HA1]
  · isplitr; · iexact HR
    isplitr; · iexact Hlev
    isplitl [HO]; · iexact HO
    isplitl [Hc1]; · iexact Hc1
    isplitl [Hl1]; · iexact Hl1
    isplitl [Hs]; · iexact Hs
    iexact HA1
  iintro ⟨HO, Hs, Hz1⟩
  iapply (step_copy st K c 2 (ne_iff_9 c) (fun h => ⟨k0_dev7 c, k0_dev7_lt c h⟩) (fun h => dev_eq c 2 (k0_dev7_eq c)) (k0_off7 c) (k0_off7_inb c)
    (k0_off7_eq c) (k0_off8 c) (k0_off8_inb c) (k0_off8_eq c) (oRs c 3) ⟨3, rfl⟩ _) $$ [HO Hc2 Hl2 Hs HA2]
  · isplitr; · iexact HR
    isplitr; · iexact Hlev
    isplitl [HO]; · iexact HO
    isplitl [Hc2]; · iexact Hc2
    isplitl [Hl2]; · iexact Hl2
    isplitl [Hs]; · iexact Hs
    iexact HA2
  iintro ⟨HO, Hs, Hz2⟩
  iapply (step_copy st K c 3 (ne_iff_10 c) (fun h => ⟨k0_dev8 c, k0_dev8_lt c h⟩) (fun h => dev_eq c 3 (k0_dev8_eq c)) (k0_off9 c) (k0_off9_inb c)
    (k0_off9_eq c) (k0_off10 c) (k0_off10_inb c) (k0_off10_eq c) (oRs c 4) ⟨4, rfl⟩ _) $$ [HO Hc3 Hl3 Hs HA3]
  · isplitr; · iexact HR
    isplitr; · iexact Hlev
    isplitl [HO]; · iexact HO
    isplitl [Hc3]; · iexact Hc3
    isplitl [Hl3]; · iexact Hl3
    isplitl [Hs]; · iexact Hs
    iexact HA3
  iintro ⟨HO, Hs, Hz3⟩
  ihave Hr := (recv_split st c) $$ [Hs Hcr]
  · isplitl [Hs]; · iexact Hs
    iexact Hcr
  icases Hr with ⟨Hr0, Hr1, Hr2, Hr3⟩
  iapply (step_recv st K c 0 (ne_iff_recv c 0) _) $$ [HO Hr0 HB0]
  · isplitr; · iexact HR
    isplitl [HO]; · iexact HO
    isplitl [Hr0]; · iexact Hr0
    iexact HB0
  iintro ⟨HO, Hs0, Hy0⟩
  iapply (step_recv st K c 1 (ne_iff_recv c 1) _) $$ [HO Hr1 HB1]
  · isplitr; · iexact HR
    isplitl [HO]; · iexact HO
    isplitl [Hr1]; · iexact Hr1
    iexact HB1
  iintro ⟨HO, Hs1, Hy1⟩
  iapply (step_recv st K c 2 (ne_iff_recv c 2) _) $$ [HO Hr2 HB2]
  · isplitr; · iexact HR
    isplitl [HO]; · iexact HO
    isplitl [Hr2]; · iexact Hr2
    iexact HB2
  iintro ⟨HO, Hs2, Hy2⟩
  iapply (step_recv st K c 3 (ne_iff_recv c 3) _) $$ [HO Hr3 HB3]
  · isplitr; · iexact HR
    isplitl [HO]; · iexact HO
    isplitl [Hr3]; · iexact Hr3
    iexact HB3
  iintro ⟨HO, Hs3, Hy3⟩
  ihave Hf := (Entails.of_eq ((scr_slots c (full st c)).trans (bigSep_four _)).symm) $$ [Hs0 Hs1 Hs2 Hs3]
  · isplitl [Hs0]; · iexact Hs0
    isplitl [Hs1]; · iexact Hs1
    isplitl [Hs2]; · iexact Hs2
    iexact Hs3
  iapply (wp_load 𝒱₀ (c : Thread nD τ) none Set.univ (m := cM) (S := Finset.univ) (f := full st c) (q := fullShare) (Finset.subset_univ _)) $$ [Hf]
  · iexact Hf
  iintro Hf
  iapply (step_done c (⟨(q10 (full st c)).1, (q10 (full st c)).2.1, (q10 (full st c)).2.2.1, (q10 (full st c)).2.2.2.1, (q10 (full st c)).2.2.2.2⟩ : T10 F) (by unfold q10 p10; with_reducible rfl))
  iapply Hk
  isplitl [HO]; · iexact HO
  isplitl [Hz1 Hz2 Hz3]
  · isplitl [Hz1]; · iexact Hz1
    isplitl [Hz2]; · iexact Hz2
    iexact Hz3
  isplitl [Hy0 Hy1 Hy2 Hy3]
  · isplitl [Hy0]; · iexact Hy0
    isplitl [Hy1]; · iexact Hy1
    isplitl [Hy2]; · iexact Hy2
    iexact Hy3
  iexact Hf

end Cert.TopK

end
-- ==== Proof.Device.lean ====
/-
One device's whole run: from its block and what the launch deals it to the sixteen largest of the row, with every
semaphore of its own at zero.
-/
module

public import proofs.«01_k».proof.Proof.Exchange

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (st : Dev nD → (S1x512x16.Idx → Elt F .f32)) (K : Dev nD × Ck → ℕ)

omit [FloatOps F] in
/-- The nine cells' pieces, one by one. -/
theorem bigSep_ck (Φ : Ck → sProp (MT nD τ sig Unit (Elt F) ℕ UU ℕ)) : bigSep Finset.univ Φ
    = iprop(Φ none ∗ Φ (some (false, 0)) ∗ Φ (some (false, 1)) ∗ Φ (some (false, 2)) ∗ Φ (some (false, 3))
        ∗ Φ (some (true, 0)) ∗ Φ (some (true, 1)) ∗ Φ (some (true, 2)) ∗ Φ (some (true, 3))) :=
  bigSep_univ_eq_bigSepL [none, some (false, 0), some (false, 1), some (false, 2), some (false, 3),
    some (true, 0), some (true, 1), some (true, 2), some (true, 3)] (by decide) (by decide) Φ

/-- The tokens of the duties device `c` pays at position `t`. -/
def payTok (c : Dev nD) (t : Fin 4) : sProp (MT nD τ sig Unit (Elt F) ℕ UU ℕ) :=
  iprop(dutyTok ER (barCell (peer c t)) 0 (yc c) ∗ dutyTok ER (sendCell c t) 0 (yc c) ∗ dutyTok ER (recvCell (peer c t) (yc c)) 0 (yc c))

/-- The positions of `c`'s cells, at the start. -/
def places (c : Dev nD) : sProp (MT nD τ sig Unit (Elt F) ℕ UU ℕ) := bigSep Finset.univ fun k : Ck => atPos ER (kcell (c, k)) 0 ∅ 0
/-- `c`'s cells, all at zero. -/
def zeros (c : Dev nD) : sProp (MT nD τ sig Unit (Elt F) ℕ UU ℕ) := bigSep Finset.univ fun k : Ck => semVal (kcell (c, k)) 0
/-- The credits of `c`'s barrier and receive cells. -/
def credits (c : Dev nD) : sProp (MT nD τ sig Unit (Elt F) ℕ UU ℕ) := iprop(cred (tallyAt (barCell c) () 3) ∗ recvCred c 0 ∗ recvCred c 1 ∗ recvCred c 2 ∗ recvCred c 3)

omit [FloatOps F] in
/-- One position's tokens and slot, dealt out. -/
theorem start_split_one (c : Dev nD) (t : Fin 4) (f : S4x512x16.Idx → Elt F .f32) :
    iprop(payTok c t ∗ slotPts c t f)
      ⊢ iprop((if yc c = t then slotPts c t f else emp) ∗ sigRes c t ∗ copyRes (F := F) c t) := by
  unfold payTok sigRes copyRes
  by_cases hy : yc c = t
  · rw [if_pos hy, if_pos hy, if_pos hy]
    iintro ⟨-, Hs⟩
    isplitl [Hs]; · iexact Hs
    isplitl <;> iempintro
  · rw [if_neg hy, if_neg hy, if_neg hy]
    iintro ⟨⟨H1, H2, H3⟩, Hs⟩
    isplitr; · iempintro
    isplitl [H1 Hs]
    · isplitl [H1]; · iexact H1
      iexists f; iexact Hs
    isplitl [H2]; · iexact H2
    iexact H3

omit [FloatOps F] in
/-- The tokens and the candidate buffer, dealt out to the signals and the copies; the own slot stays. -/
theorem start_split (c : Dev nD) (f : S4x512x16.Idx → Elt F .f32) :
    iprop((bigSep Finset.univ fun t => payTok c t) ∗ scrPts c f)
      ⊢ iprop(slotPts c (yc c) f ∗ (sigRes c 0 ∗ sigRes c 1 ∗ sigRes c 2 ∗ sigRes c 3) ∗ copyRes (F := F) c 0 ∗ copyRes c 1 ∗ copyRes c 2 ∗ copyRes c 3) := by
  have h : ∀ y, y = yc c → iprop((bigSep Finset.univ fun t => payTok c t) ∗ scrPts c f)
      ⊢ iprop(slotPts c y f ∗ (bigSep Finset.univ fun t => sigRes c t) ∗ bigSep Finset.univ fun t => copyRes (F := F) c t) := by
    rintro y rfl
    rw [scr_slots, ← bigSep_only (yc c) fun s => slotPts (F := F) c s f, ← bigSep_sep', ← bigSep_sep', ← bigSep_sep']
    exact bigSep_mono fun t _ => start_split_one c t f
  have := h _ rfl
  rw [bigSep_four (fun t => sigRes c t), bigSep_four (fun t => copyRes c t)] at this
  exact this

omit [FloatOps F] in
theorem hz : (![0, 0] : Fin 2 → Nat) = fun _ => 0 := funext fun a => by fin_cases a <;> rfl
omit [FloatOps F] in
theorem write_out (f w : (cc0_stg1_0 : Ref sig .tc).ty.Contents (Elt F)) :
    (oM.access (Rect.unit (s := S512x16) ![0, 0] S512x16.size inb_S512x16_S512x16_0_0) : View sig .tc _ _ _).write (Elt F) f w Finset.univ = w :=
  Memref.write_access_unit_zero_univ (Elt F) cc0_stg1_0 hz _ f w

/-- The store of the result, after the load the store comes with. -/
theorem step_result {α : Type} {Q : α → sProp (MT nD τ sig Unit (Elt F) ℕ UU ℕ)} (c : Dev nD) (Y w : FVec F S512x16 .f32)
    (o : Fin 2 → ℕ) (ho : o = ![0, 0]) (hb : ∀ a, o a + S512x16.size a ≤ S512x16.size a) {hl hx hm} (k : PUnit → Prog (TpuEff nD τ sig (Elt F) Λ₀ .tc) α) :
    oPts c Y ⊢ iprop((oPts c w -∗ WP c (k ⟨⟩) Q)
          -∗ WP c (.op (.load oM (Rect.unit (s := S512x16) o S512x16.size hb).toLoadRect hl) fun _ =>
              .op (.store oM (Rect.unit (s := S512x16) o S512x16.size hb) w Finset.univ hx hm) k) Q) := by
  subst ho
  iintro Hs Hk
  iapply (wp_load_rect 𝒱₀ (c : Thread nD τ) none Set.univ (m := oM) (r := Rect.unit (s := S512x16) ![0, 0] S512x16.size hb) (S := Finset.univ) (f := Y) (Finset.subset_univ _)) $$ [Hs]
  · iexact Hs
  iintro Hs
  iapply (wp_store 𝒱₀ (c : Thread nD τ) none Set.univ (m := oM) (r := Rect.unit (s := S512x16) ![0, 0] S512x16.size hb) (Mk := Finset.univ) (S := Finset.univ) (f := Y) (Finset.subset_univ _)) $$ [Hs]
  · iexact Hs
  iintro Hs
  iapply Hk
  iapply (Entails.of_eq (congrArg (fun W => oPts c W) (write_out Y w)))
  iexact Hs

set_option maxHeartbeats 2000000 in
/-- One device's run of the kernel's body. -/
theorem wp_body (c : Dev nD) (X : VX F) (hst : st c = stored X) (Y : FVec F S512x16 .f32) (Q : PUnit → sProp (MT nD τ sig Unit (Elt F) ℕ UU ℕ)) :
    iprop(records st K ∗ levAts L lv ∗ owesE c (oBs c 0) ∗ credits c ∗ places c ∗ (bigSep Finset.univ fun t => payTok c t)
        ∗ (∃ f, scrPts c f) ∗ xPts c X ∗ oPts c Y)
      ⊢ iprop(((owesE c 0 ∗ zeros c ∗ scrPts c (full st c) ∗ xPts c X ∗ oPts c (merged (full st c))) -∗ Q ⟨⟩)
          -∗ WP c (cc0_body xM (Memref.isWhole_whole _) oM (Memref.isWhole_whole _) cM (Memref.isWhole_whole _) cc0_scratch1 cc0_scratch2) Q) := by
  rw [cc0_body_eq_skeleton]; unfold cc0_body_skel
  unfold credits places zeros
  rw [bigSep_ck, bigSep_ck]
  iintro ⟨#HR, #Hlev, HO, ⟨HC, HCr⟩, ⟨HA, HA0, HA1, HA2, HA3, HB⟩, Htok, ⟨%f, Hscr⟩, Hx, Hout⟩ Hk
  ihave Hd := (start_split c f) $$ [Htok Hscr]
  · isplitl [Htok]; · iexact Htok
    iexact Hscr
  icases Hd with ⟨Hs, ⟨Hg0, Hg1, Hg2, Hg3⟩, Hc0, Hc⟩
  iapply (step_bind c _ _)
  iapply (wp_part3 st K c X _) $$ [HO Hg0 Hg1 Hg2 Hg3 Hx]
  · isplitr; · iexact HR
    isplitl [HO]; · iexact HO
    isplitl [Hg0]; · iexact Hg0
    isplitl [Hg1]; · iexact Hg1
    isplitl [Hg2]; · iexact Hg2
    isplitl [Hg3]; · iexact Hg3
    iexact Hx
  iintro ⟨HO, Hx⟩
  iapply (step_bind c _ _)
  iapply (wp_part4 c X _) $$ [Hx]; · iexact Hx
  iintro Hx
  iapply (step_bind c _ _)
  iapply (wp_part5 c X _) $$ [Hx]; · iexact Hx
  iintro Hx
  iapply (step_bind c _ _)
  iapply (wp_part6 c X _) $$ [Hx]; · iexact Hx
  iintro Hx
  iapply (step_bind c _ _)
  iapply (wp_part7 c X _)
  iapply (step_bind c _ _)
  iapply (wp_part8 c X _)
  iapply (step_bind c _ _)
  iapply (wp_part9 st K c X hst f _ _ _) $$ [HO HC HA Hc0 HA0 Hs Hx]
  · isplitr; · iexact HR
    isplitr; · iexact Hlev
    isplitl [HO]; · iexact HO
    isplitl [HC]; · iexact HC
    isplitl [HA]; · iexact HA
    isplitl [Hc0]; · iexact Hc0
    isplitl [HA0]; · iexact HA0
    isplitl [Hs]; · iexact Hs
    iexact Hx
  iintro ⟨HO, Hz, Hl1, Hl2, Hl3, Hz0, Hs, Hx⟩
  iapply (step_bind c _ _)
  iapply (wp_part10 st K c _ _ _ _) $$ [HO Hc Hl1 Hl2 Hl3 HA1 HA2 HA3 Hs HCr HB]
  · isplitr; · iexact HR
    isplitr; · iexact Hlev
    isplitl [HO]; · iexact HO
    isplitl [Hc]; · iexact Hc
    isplitl [Hl1 Hl2 Hl3]
    · isplitl [Hl1]; · iexact Hl1
      isplitl [Hl2]; · iexact Hl2
      iexact Hl3
    isplitl [HA1 HA2 HA3]
    · isplitl [HA1]; · iexact HA1
      isplitl [HA2]; · iexact HA2
      iexact HA3
    isplitl [Hs]; · iexact Hs
    isplitl [HCr]; · iexact HCr
    iexact HB
  iintro ⟨HO, ⟨Hz1, Hz2, Hz3⟩, Hy, Hscr⟩
  iapply (step_bind c _ _)
  iapply (wp_part11 c (full st c) _)
  iapply (step_bind c _ _)
  iapply (wp_part12 c (full st c) _)
  iapply (step_result c Y (merged (full st c)) _ rfl _ _) $$ [Hout]; · iexact Hout
  iintro Hout
  iapply (step_done c PUnit.unit (by rfl))
  iapply Hk
  isplitl [HO]; · iexact HO
  isplitl [Hz Hz0 Hz1 Hz2 Hz3 Hy]
  · isplitl [Hz]; · iexact Hz
    isplitl [Hz0]; · iexact Hz0
    isplitl [Hz1]; · iexact Hz1
    isplitl [Hz2]; · iexact Hz2
    isplitl [Hz3]; · iexact Hz3
    iexact Hy
  isplitl [Hscr]; · iexact Hscr
  isplitl [Hx]; · iexact Hx
  iexact Hout

end Cert.TopK

end
-- ==== Proof.Launch.lean ====
/-
The launch on all devices: the exchange's tokens dealt out, every device's run, and the final state.
-/
module

public import proofs.«01_k».proof.Proof.Device
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-- The block of the argument staged on device `c`. -/
def xstg (c : Dev nD) : (cc0_stg0_0 : Ref sig .tc).ty.Contents (Elt F) :=
  (win0_0.blk (0 : Fin 1)).view.read (Elt F) ((s₀ m ρ).mem ((c : Thread nD τ).loc main_arg0))

/-- What device `c` stores in its slot. -/
def sent (c : Dev nD) : S1x512x16.Idx → Elt F .f32 := stored (xstg m ρ c)

/-- The result on device `c`. -/
def outAt (c : Dev nD) : (cc0_stg1_0 : Ref sig .tc).ty.Contents (Elt F) := merged (full (sent m ρ) c)

/-! ## The body's obligation -/

/-- What device `c`'s body starts from. -/
def start (c : Dev nD) : sProp 𝕄 :=
  iprop((∃ K, records (sent m ρ) K) ∗ (places c ∗ bigSep Finset.univ fun t => payTok c t) ∗ credits c ∗ levAts L lv)
def Φ₀ (c : Dev nD) : sProp 𝕄 := iprop(start m ρ c ∗ ∃ f, scrPts c f)
def Φ₁ (c : Dev nD) : sProp 𝕄 := iprop(scrPts c (full (sent m ρ) c) ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 : (cfg0.win (0 : Fin 2)).fetch t0_0 = true := rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m ρ c ∗ (dats m ρ 0 c).owesAt () t0_0.succ ∗ stg c cc0_stg0_0 (xstg m ρ c) ∗ stg c cc0_stg1_0 (outAt m ρ c))

/-- The body between its two assertions. -/
theorem sound_body (c : Dev nD) : bodyPre m ρ c ⊢ WP c (cc0_body xM (Memref.isWhole_whole _) oM (Memref.isWhole_whole _) cM (Memref.isWhole_whole _) cc0_scratch1 cc0_scratch2)
    (fun _ => bodyPost m ρ c) := by
  unfold bodyPre Φ₀ start
  iintro ⟨⟨⟨⟨%K, #HR⟩, ⟨HA, Ht⟩, HC, #Hlev⟩, Hscr⟩, Ho, ⟨%d0, %g0, %hg0, Hx⟩, ⟨%d1, %g1, %hg1, Hout⟩⟩
  have hx : g0 = xstg m ρ c := by rw [hg0]; unfold Dat.before; rw [if_pos fetch_0]; rfl
  subst hx
  unfold Dat.owesAt Pipeline.owesWithin
  icases Ho with ⟨%W, %hW, HO⟩
  rw [show (dats m ρ 0 c).owed t0_0.castSucc = O₀ c from rfl]
  iapply (wp_body (sent m ρ) K c (xstg m ρ c) rfl g1 _) $$ [HA Ht HC Hscr HO Hx Hout]
  · isplitr; · iexact HR
    isplitr; · iexact Hlev
    isplitl [HO]; · unfold owesE; iexists W; iexact HO
    isplitl [HC]; · iexact HC
    isplitl [HA]; · iexact HA
    isplitl [Ht]; · iexact Ht
    isplitl [Hscr]; · iexact Hscr
    isplitl [Hx]; · iexact Hx
    iexact Hout
  unfold owesE
  iintro ⟨⟨%W', HO⟩, Hz, Hscr, Hx, Hout⟩
  unfold bodyPost Φ₁ Dat.owesAt Pipeline.owesWithin
  rw [show (dats m ρ 0 c).owed t0_0.succ = 0 from rfl]
  isplitl [Hscr Hz]
  · isplitl [Hscr]; · iexact Hscr
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The obligation on device `c`, as the launch takes it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## What the launch deals out -/

/-- The semaphores a device allocates for itself: its send and its receive cells. -/
abbrev osem (k : Bool × Fin 4) : SemLoc sig := csem (some k)
theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_injective⟩

/-- The tokens, each named by the device that pays with it, the position it is for, and which of the three it is. -/
abbrev tokOf (x : Dev nD × Fin 4 × Fin 3) : GSem nD τ sig × ℕ × Fin 4 := match x.2.2 with
  | 0 => (barCell (peer x.1 x.2.1), 0, yc x.1)
  | 1 => (sendCell x.1 x.2.1, 0, yc x.1)
  | 2 => (recvCell (peer x.1 x.2.1) (yc x.1), 0, yc x.1)

/-- Which device pays with a token, for which position, and which of the three it is. -/
def payer (y : GSem nD τ sig × ℕ × Fin 4) : Dev nD × Fin 4 × Fin 3 := match kindOf y.1.2 with
  | some (some (false, t)) => (y.1.1.1, t, 1)
  | some (some (true, s)) => (peer y.1.1.1 s, yc y.1.1.1, 2)
  | _ => (peer y.1.1.1 y.2.2, yc y.1.1.1, 0)

theorem payer_tokOf (x : Dev nD × Fin 4 × Fin 3) : payer (tokOf x) = x := by
  obtain ⟨c, t, j⟩ := x
  fin_cases j
  · show payer (barCell (peer c t), 0, yc c) = _
    unfold payer; rw [show kindOf ((barCell (peer c t), 0, yc c) : GSem nD τ sig × ℕ × Fin 4).1.2 = some none from kindOf_csem none]
    exact Prod.ext (peer_back c t) (Prod.ext (yc_peer c t) rfl)
  · show payer (sendCell c t, 0, yc c) = _
    unfold payer; rw [show kindOf ((sendCell c t, 0, yc c) : GSem nD τ sig × ℕ × Fin 4).1.2 = some (some (false, t)) from kindOf_csem (some (false, t))]
    rfl
  · show payer (recvCell (peer c t) (yc c), 0, yc c) = _
    unfold payer; rw [show kindOf ((recvCell (peer c t) (yc c), 0, yc c) : GSem nD τ sig × ℕ × Fin 4).1.2 = some (some (true, yc c)) from kindOf_csem (some (true, yc c))]
    exact Prod.ext (peer_back c t) (Prod.ext (yc_peer c t) rfl)
theorem tokOf_injective : Function.Injective tokOf := Function.LeftInverse.injective payer_tokOf
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- What the launch's element deals device `c`. -/
def G (c : Dev nD) : sProp 𝕄 :=
  iprop((bigSep Finset.univ fun k : Ck => roundState ER (Rd (sent m ρ)) (kcell (c, k)) 0)
    ∗ (places c ∗ bigSep Finset.univ fun k : Ck => reached ER (kcell (c, k)) 0) ∗ bigSep Finset.univ fun t => payTok c t)

/-- What device `c` holds once the cells are shared. -/
def G' (c : Dev nD) : sProp 𝕄 :=
  iprop((∃ K, records (sent m ρ) K) ∗ (places c ∗ bigSep Finset.univ fun t => payTok c t))

omit [FloatOps F] in
theorem bigSep_fin3 (Φ : Fin 3 → sProp (MT nD τ sig Unit (Elt F) ℕ UU ℕ)) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun t => payTok c t := by
    unfold ringToks; rw [bigSep_map, bigSep_univ_prod]
    refine bigSep_congr fun c _ => ?_
    rw [bigSep_univ_prod]
    exact bigSep_congr fun t _ => by unfold payTok; rw [bigSep_fin3]; rfl
  iintro HX
  imod (Rounds.fund ER (Rd (sent m ρ)) ringCells ringToks) $$ HX with ⟨Hst, Hr, Hat, Htok⟩
  imodintro
  ihave Hst' := (Entails.of_eq (hX fun g => roundState ER (Rd (sent m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (recvCell c 0) 0 ∗ semVal (recvCell c 1) 0 ∗ semVal (recvCell c 2) 0 ∗ semVal (recvCell c 3) 0) := by
  rw [Pipeline.ownSems0_eq_of_list c osem [(false, 0), (false, 1), (false, 2), (false, 3), (true, 0), (true, 1), (true, 2), (true, 3)] (by decide) (by decide)]; rfl

omit [FloatOps F] in
/-- The nine counters at zero are the barrier's and the device's own eight. -/
theorem zeros_eq (c : Dev nD) : (zeros c : sProp 𝕄) = iprop(unscopedSems0 c ∗ Pipeline.ownSems0 osem c) := by
  unfold zeros; rw [bigSep_ck, unscopedSems0_eq, ownSems0_eq]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (sent m ρ)) κ (kcell (c, k))))
          ∗ (places c ∗ bigSep Finset.univ fun k : Ck => reached ER (kcell (c, k)) 0) ∗ bigSep Finset.univ fun t => payTok c t) := by
  unfold G
  iintro ⟨Hos, Hus, Hst, Hat, Htok⟩
  ihave Hv := (Entails.of_eq (zeros_eq (F := F) c).symm) $$ [Hos Hus]
  · isplitl [Hus] <;> iassumption
  imod (show iprop(zeros c ∗ bigSep Finset.univ fun k : Ck => roundState ER (Rd (sent m ρ)) (kcell (c, k)) 0)
      ⊢ (|={Set.univ}=> bigSep Finset.univ fun k => iprop(∃ κ : ℕ, cellInv ER (Rd (sent m ρ)) κ (kcell (c, k))) : sProp 𝕄) from by
        unfold zeros
        rw [← bigSep_sep']
        exact (bigSep_mono fun k _ => (Rounds.body_intro ER (Rd (sent m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with_persistent {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (sent m ρ)) κ (kcell (c, k))))
          ∗ (places c ∗ bigSep Finset.univ fun k : Ck => reached ER (kcell (c, k)) 0) ∗ bigSep Finset.univ fun t => payTok c t) : sProp 𝕄)
      ⊢ bigSep Finset.univ (G' m ρ) := by
  rw [bigSep_sep', bigSep_sep', bigSep_sep', ← bigSep_univ_prod (fun ck : Dev nD × Ck => iprop(∃ κ : ℕ, cellInv ER (Rd (sent m ρ)) κ (kcell ck))),
    ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (Rd (sent m ρ)) κ (kcell ck) : sProp 𝕄))) $$ HI
  icases HK with ⟨%K, #HI⟩
  iapply (bigSep_with_persistent (R := records (sent m ρ) K) (Φ := fun c : Dev nD => iprop(places c ∗ bigSep Finset.univ fun t => payTok c t)) (Ψ := G' m ρ)
    fun c _ => sep_mono_left (exists_intro (Φ := fun K => records (sent m ρ) K) K))
  isplitr
  · unfold records; rw [bigSep_sep']; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit the launch gives -/

/-- What is owed to a cell of device `c`: three units to its barrier, one copy to each receive cell but its own. -/
def due (c : Dev nD) : Ck → ℕ
  | none => 3
  | some (true, s) => if yc c = s then 0 else N
  | some (false, _) => 0

theorem oBs_apply (d : Dev nD) (g : GSem nD τ sig) : O₀ d g () = (∑ t, oR d t g ()) + ∑ t, oB d t g () := by
  simp only [Fin.sum_univ_four]
  show (((((((0 + oR d 3 g ()) + oR d 2 g ()) + oR d 1 g ()) + oR d 0 g ()) + oB d 3 g ()) + oB d 2 g ()) + oB d 1 g ()) + oB d 0 g () = _
  omega

theorem kcell_iff {a b : Dev nD} {k k' : Ck} : kcell (a, k) = kcell (b, k') ↔ a = b ∧ k = k' :=
  ⟨fun h => Prod.mk.inj (kcell_injective h), fun h => by rw [h.1, h.2]⟩

theorem oB_at (d c : Dev nD) (t : Fin 4) (k : Ck) : oB d t (kcell (c, k)) () = if k = none ∧ yc d ≠ t ∧ c = peer d t then 1 else 0 := by
  unfold oB
  by_cases h : yc d = t
  · rw [if_pos h, if_neg (fun h' => h'.2.1 h)]; rfl
  · rw [if_neg h, tallyAt_apply]
    exact if_congr ⟨fun h' => ⟨(kcell_iff.mp h'.1).2, h, (kcell_iff.mp h'.1).1⟩, fun h' => ⟨kcell_iff.mpr ⟨h'.2.2, h'.1⟩, rfl⟩⟩ rfl rfl
theorem oR_at (d c : Dev nD) (t : Fin 4) (k : Ck) :
    oR d t (kcell (c, k)) () = N * if k = some (true, yc d) ∧ yc d ≠ t ∧ c = peer d t then 1 else 0 := by
  unfold oR
  by_cases h : yc d = t
  · rw [if_pos h, if_neg (fun h' => h'.2.1 h)]; rfl
  · rw [if_neg h, tallyAt_apply, mul_ite, mul_one, mul_zero]
    exact if_congr ⟨fun h' => ⟨(kcell_iff.mp h'.1).2, h, (kcell_iff.mp h'.1).1⟩, fun h' => ⟨kcell_iff.mpr ⟨h'.2.2, h'.1⟩, rfl⟩⟩ rfl rfl

theorem count_bar : ∀ c : Dev nD, (∑ d : Dev nD, ∑ t : Fin 4, if yc d ≠ t ∧ c = peer d t then 1 else 0) = 3 := by decide +kernel
theorem count_recv : ∀ (c : Dev nD) (s : Fin 4), (∑ d : Dev nD, ∑ t : Fin 4, if s = yc d ∧ yc d ≠ t ∧ c = peer d t then 1 else 0) = if yc c = s then 0 else 1 := by
  decide +kernel

theorem owed_due (c : Dev nD) (k : Ck) : ∑ d : Dev nD, O₀ d (kcell (c, k)) () = due c k := by
  simp only [oBs_apply, oB_at, oR_at, Finset.sum_add_distrib, ← Finset.mul_sum]
  rcases k with _ | ⟨_ | _, s⟩
  · simpa [due] using count_bar c
  · simp [due]
  · have := count_recv c s
    simp only [Option.some.injEq, Prod.mk.injEq, true_and, reduceCtorEq, false_and, if_false, Finset.sum_const_zero, Nat.add_zero, due]
    rw [this, mul_ite, mul_one, mul_zero]

theorem launch_due (c : Dev nD) (k : Ck) :
    tallyOn (kcell (c, k)) (launchCredit (Pipeline.owing O₀) 0 (kcell (c, k))) = (tallyAt (kcell (c, k)) () (due c k) : CellTallies nD τ sig Unit) := by
  unfold tallyAt; refine congrArg _ (Finsupp.ext fun u => ?_); cases u
  rw [Pipeline.launchCredit_owing, Finsupp.single_eq_same, owed_due]

omit [FloatOps F] in
theorem recv_due (c : Dev nD) (s : Fin 4) : (cred (tallyAt (recvCell c s) () (due c (some (true, s)))) : sProp 𝕄) ⊢ recvCred c s := by
  show (cred (tallyAt (recvCell c s) () (if yc c = s then 0 else N)) : sProp 𝕄) ⊢ _
  unfold recvCred
  by_cases h : yc c = s
  · rw [if_pos h, if_pos h]; exact BI.affine
  · rw [if_neg h, if_neg h]

omit [FloatOps F] in
theorem creds (c : Dev nD) : (Pipeline.launchCred O₀ c : sProp 𝕄) ⊢ credits c := by
  have h : (Pipeline.launchCred O₀ c : sProp 𝕄) ⊢ bigSep Finset.univ fun k : Ck => cred (tallyAt (kcell (c, k)) () (due c k)) := by
    unfold Pipeline.launchCred
    have h1 : ∀ Φ : SemLoc sig → sProp 𝕄, bigSep Finset.univ Φ ⊢ bigSep Finset.univ fun k : Ck => Φ (csem k) := fun Φ => by
      have := BI.bigSep_map (s := (Finset.univ : Finset Ck)) ⟨csem, csem_injective⟩ (Φ := Φ)
      exact (show bigSep Finset.univ Φ ⊢ bigSep (Finset.univ.map ⟨csem, csem_injective⟩) Φ from BI.bigSep_subset (Finset.subset_univ _)).trans (Entails.of_eq this)
    exact (h1 _).trans (Entails.of_eq (bigSep_congr fun k _ => congrArg cred (launch_due c k)))
  refine h.trans ?_
  rw [bigSep_ck]
  unfold credits
  iintro ⟨HB, -, -, -, -, H0, H1, H2, H3⟩
  isplitl [HB]; · iexact HB
  isplitl [H0]; · iapply (recv_due (F := F) c 0); iexact H0
  isplitl [H1]; · iapply (recv_due (F := F) c 1); iexact H1
  isplitl [H2]; · iapply (recv_due (F := F) c 2); iexact H2
  iapply (recv_due (F := F) c 3); iexact H3

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  icases HG with ⟨HK, HA⟩
  isplitl
  · isplitl [HK]; · iexact HK
    isplitl [HA]; · iexact HA
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [zeros_eq]
  iintro ⟨Hr, HzB, Hz⟩
  isplitl [HzB]; · iexact HzB
  isplitl [Hz]; · iexact Hz
  iexists (full (sent m ρ) c); iexact Hr

theorem mayWait_stage (c : Dev nD) (sm : SemLoc sig) (h : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · exact mayWait_low c sm h 0
  · rw [MayWait_zero]; exact BI.affine

theorem kindOf_none (sm : SemLoc sig) (h : ∀ k : Ck, csem k ≠ sm) : kindOf sm = none := by
  unfold kindOf
  rw [List.find?_eq_none]
  exact fun k _ => by rw [decide_eq_true_eq]; exact h k
theorem lv_none (c : Dev nD) (sm : SemLoc sig) (h : ∀ k : Ck, csem k ≠ sm) : lv ((c : Thread nD τ), sm) () = 0 := by
  unfold lv; rw [show kindOf ((c : Thread nD τ), sm).2 = none from kindOf_none sm h]

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_none c _ (by fin_cases w <;> fin_cases s <;> decide)) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every array of every device holds its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters, every run of the program on the mesh ends, each device's
    arrays at their final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run is as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.TopK

end
-- ==== Proof.Frames.lean ====
/-
The frames: every program ends, its argument unchanged and every semaphore counter at zero.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.DistinctIdeal.Run
public import proofs.«01_k».proof.Proof.Launch
public import Idealize.ShloMosaic.Lib.Pipeline.ValueKit.Geometry

@[expose] public section

noncomputable section

namespace Cert.TopK

open Idealize.ShloMosaic Idealize.ShloMosaic.TcCoe Idealize.SL.Sem

/-- The two printings of the kernel have the same bodies. -/
theorem bodies_same {F : FTy → Type} [FloatOps F] : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl
  | ⟨n + 1, h⟩, _ => exact absurd h (Nat.not_lt.2 (Nat.le_add_left _ _))
/-- So the two launch the same. -/
theorem launches_same {F : FTy → Type} [FloatOps F] : Cert.Kernel.defs (F := F) = Cert.KernelIdeal.defs (F := F) :=
  congrArg (Pipeline.defs Cert.KernelIdeal.pcfgs) bodies_same

/-- The kernel as printed ends with its argument unchanged and every counter at zero. -/
theorem frame_kernel : Cert.quiescent_Kernel := fun m ρ _ => by
  rw [launches_same]
  exact (θ_run Cert.KernelIdeal.defs _ _).mono (fun _ h => ⟨fun c => (h.1 c (0 : Fin 2)).trans (finalA_x m ρ c), h.2⟩) (run_main (F := Bits) m ρ)
/-- The same of its reading over the extended reals. -/
theorem frame_kernelIdeal : Cert.quiescent_KernelIdeal := fun m ρ _ =>
  (θ_run Cert.KernelIdeal.defs _ _).mono (fun _ h => ⟨fun c => (h.1 c (0 : Fin 2)).trans (finalA_x m ρ c), h.2⟩) (run_main (F := Ideal) m ρ)
/-- The same of the reference. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)
/-- The same of the distinct values. -/
theorem frame_distinct : Cert.quiescent_DistinctIdeal := fun m ρ _ =>
  (θ_run Cert.DistinctIdeal.defs _ _).mono (fun r h => ⟨fun c => (h c).2, sem_eq_zero_of_no_sems rfl r.2⟩)
    (Cert.DistinctIdeal.Value.run (F := Ideal) m ρ)
/-- The idealized program is the kernel itself. -/
theorem kept : Cert.preserves_Kernel_KernelIdeal := trivial

section Result

open Cert.KernelIdeal Cert.KernelIdeal.Gen

variable {F : FTy → Type} [FloatOps F]
variable (m : (ℓ : Loc nD τ sig) → Buf (Elt F) ℓ) (ρ : Dev nD → PrngReg)

/-- The result array holds what the body left. -/
theorem finalA_o (c : Dev nD) : finalA m ρ c (1 : Fin 2) = outAt m ρ c := by
  refine (dats m ρ 0 c).arrAt_eq_of_after_last (1 : Fin 2) t0_0 (by decide +kernel) _ fun j => ?_
  rfl

end Result

end Cert.TopK

end
-- ==== Proof.Lead.lean ====
/-
The distinct values of a set from the greatest down, in any complete linear order: what they are of a subset that holds
every value among the first few, of the sets' own first few gathered together, of a sorted list, and of rounds that take
the greatest value and strike it out.
-/
module

public import Mathlib.Order.CompleteLattice.Basic
public import Mathlib.Order.ConditionallyCompleteLattice.Finset
public import Mathlib.Data.Set.Finite.Range

@[expose] public section

noncomputable section

namespace Cert.TopK

variable {α : Type*} [CompleteLinearOrder α]

/-- The distinct values of `S` from the greatest down, counted from 0; `⊥` where there are no more. -/
def lead (S : Set α) : ℕ → α
  | 0 => sSup S
  | n + 1 => sSup {x | x ∈ S ∧ x < lead S n}

/-- The values do not rise. -/
theorem lead_succ_le (S : Set α) (n : ℕ) : lead S (n + 1) ≤ lead S n := sSup_le fun _ h => h.2.le

/-- The values do not rise, at any distance. -/
theorem lead_antitone (S : Set α) : Antitone (lead S) := antitone_nat_of_succ_le (lead_succ_le S)

/-- A value of the set is one of its first `n + 1` distinct ones or below the last of them. -/
theorem lead_or_lt (S : Set α) {x : α} (hx : x ∈ S) (n : ℕ) : (∃ j, j ≤ n ∧ x = lead S j) ∨ x < lead S n := by
  induction n with
  | zero => exact (le_sSup hx).eq_or_lt.imp (fun h => ⟨0, le_rfl, h⟩) id
  | succ n ih =>
    rcases ih with ⟨j, hj, h⟩ | h
    · exact .inl ⟨j, by omega, h⟩
    · exact (le_sSup (show x ∈ {x | x ∈ S ∧ x < lead S n} from ⟨hx, h⟩)).eq_or_lt.imp (fun h => ⟨n + 1, le_rfl, h⟩) id

/-- A set `T` taken from `S` that misses only values at or below its own last one has the same first values as `S`. -/
theorem lead_eq_of_cover {S T : Set α} {k : ℕ} (hT : ∀ x ∈ T, x ∈ S ∨ x = ⊥) (hS : ∀ x ∈ S, x ∈ T ∨ x ≤ lead T k) :
    ∀ n, n ≤ k → lead S n = lead T n := by
  intro n
  induction n with
  | zero =>
    intro _
    apply le_antisymm
    · refine sSup_le fun x hx => (hS x hx).elim (fun h => le_sSup h) fun h => h.trans (lead_antitone T (Nat.zero_le k))
    · exact sSup_le fun x hx => (hT x hx).elim (fun h => le_sSup h) fun h => h ▸ bot_le
  | succ n ih =>
    intro hn
    have e := ih (by omega)
    apply le_antisymm
    · refine sSup_le fun x hx => (hS x hx.1).elim (fun h => le_sSup ⟨h, e ▸ hx.2⟩) fun h => h.trans (lead_antitone T hn)
    · exact sSup_le fun x hx => (hT x hx.1).elim (fun h => le_sSup ⟨h, e ▸ hx.2⟩) fun h => h ▸ bot_le

/-- The greatest value of a finite set is in it, or is `⊥`. -/
theorem sSup_mem_or {U : Set α} (hU : U.Finite) : sSup U ∈ U ∨ sSup U = ⊥ := by
  rcases U.eq_empty_or_nonempty with h | h
  · exact .inr (by rw [h, sSup_empty])
  · exact .inl (h.csSup_mem hU)

/-- Of a finite set every one of the values is in the set, or is `⊥`. -/
theorem lead_mem {S : Set α} (hf : S.Finite) (n : ℕ) : lead S n ∈ S ∨ lead S n = ⊥ := by
  cases n with
  | zero => exact sSup_mem_or hf
  | succ n => exact (sSup_mem_or (hf.subset fun _ h => h.1)).imp_left fun h => h.1

/-- A set that holds the first values of a finite set has first values at least as great. -/
theorem lead_le_of_gathered {S T : Set α} {k : ℕ} (hf : S.Finite) (hT : ∀ j, j ≤ k → lead S j ∈ T) :
    ∀ n, n ≤ k → lead S n ≤ lead T n := by
  intro n
  induction n with
  | zero => exact fun h => le_sSup (hT 0 h)
  | succ n ih =>
    intro hn
    have e := ih (by omega)
    rcases (lead_succ_le S n).lt_or_eq with h | h
    · exact le_sSup ⟨hT _ hn, h.trans_le e⟩
    · rcases sSup_mem_or (hf.subset fun _ (h : _ ∈ {x | x ∈ S ∧ x < lead S n}) => h.1) with h' | h'
      · exact absurd h (show lead S (n + 1) < lead S n from h'.2).ne
      · exact (show lead S (n + 1) = ⊥ from h') ▸ bot_le

/-- The first values of the union of finite sets are those of the sets' own first values gathered together. -/
theorem lead_iUnion {ι : Type*} {S : ι → Set α} {T : Set α} {k : ℕ} (hf : ∀ i, (S i).Finite)
    (hT : T = {x | ∃ i, ∃ j, j ≤ k ∧ x = lead (S i) j}) : ∀ n, n ≤ k → lead (⋃ i, S i) n = lead T n := by
  subst hT
  apply lead_eq_of_cover
  · rintro x ⟨i, j, -, rfl⟩
    exact (lead_mem (hf i) j).imp_left fun h => Set.mem_iUnion.2 ⟨i, h⟩
  · intro x hx
    obtain ⟨i, hi⟩ := Set.mem_iUnion.1 hx
    rcases lead_or_lt (S i) hi k with ⟨j, hj, h⟩ | h
    · exact .inl ⟨i, j, hj, h⟩
    · exact .inr (h.le.trans (lead_le_of_gathered (hf i) (T := {x | ∃ i, ∃ j, j ≤ k ∧ x = lead (S i) j}) (fun j hj => ⟨i, j, hj, rfl⟩) k le_rfl))

/-- A list sorted downwards has as its first values its first entries, where no two of those are equal but at `⊥`. -/
theorem lead_of_sorted {N : ℕ} (s : ℕ → α) (hs : ∀ a b, a ≤ b → b < N → s b ≤ s a) (j : ℕ) (hj : j < N)
    (h : ∀ n, n < j → s (n + 1) ≠ s n ∨ s n = ⊥) : lead {x | ∃ i, i < N ∧ x = s i} j = s j := by
  induction j with
  | zero =>
    apply le_antisymm
    · exact sSup_le fun x ⟨i, hi, hx⟩ => hx ▸ hs 0 i (Nat.zero_le _) hi
    · exact le_sSup ⟨0, hj, rfl⟩
  | succ n ih =>
    have e := ih (by omega) fun m hm => h m (by omega)
    have hle : s (n + 1) ≤ s n := hs n (n + 1) (by omega) hj
    apply le_antisymm
    · refine sSup_le fun x ⟨⟨i, hi, hx⟩, hlt⟩ => ?_
      rw [e] at hlt
      rcases Nat.lt_or_ge n i with hi' | hi'
      · exact hx ▸ hs (n + 1) i hi' hi
      · exact absurd (hs i n hi' (by omega)) (not_le.2 (hx ▸ hlt))
    · rcases h n (by omega) with h' | h'
      · exact le_sSup ⟨⟨n + 1, hj, rfl⟩, e ▸ lt_of_le_of_ne hle h'⟩
      · exact (hle.trans h'.le).trans bot_le

/-- A list with every value struck out that the greatest equals. -/
def strike {ι : Type*} (v : ι → α) : ι → α := fun i => if v i = ⨆ k, v k then ⊥ else v i

/-- After some rounds of striking out the greatest, the values left are those below the last one struck out. -/
theorem strike_apply {ι : Type*} (x : ι → α) (n : ℕ) :
    (⨆ i, (strike^[n] x) i) = lead (Set.range x) n ∧
      ∀ i, (strike^[n + 1] x) i = if x i < lead (Set.range x) n then x i else ⊥ := by
  have step : ∀ n, (⨆ i, (strike^[n] x) i) = lead (Set.range x) n →
      (∀ i, (strike^[n] x) i = x i ∨ (strike^[n] x) i = ⊥ ∧ lead (Set.range x) n ≤ x i) →
      ∀ i, (strike^[n + 1] x) i = if x i < lead (Set.range x) n then x i else ⊥ := by
    intro n h0 h1 i
    rw [Function.iterate_succ_apply', strike, h0]
    have hle : (strike^[n] x) i ≤ lead (Set.range x) n := h0 ▸ le_iSup (strike^[n] x) i
    rcases h1 i with h | ⟨h, h'⟩
    · rw [h] at hle ⊢
      rcases hle.lt_or_eq with hlt | heq
      · rw [if_neg hlt.ne, if_pos hlt]
      · rw [if_pos heq, if_neg heq.not_lt]
    · rw [if_neg (not_lt.2 h'), h, ite_self]
  induction n with
  | zero => exact ⟨rfl, step 0 rfl fun i => .inl rfl⟩
  | succ n ih =>
    have h0 : (⨆ i, (strike^[n + 1] x) i) = lead (Set.range x) (n + 1) := by
      apply le_antisymm
      · refine iSup_le fun i => ?_
        rw [ih.2 i]
        split
        · exact le_sSup ⟨⟨i, rfl⟩, ‹_›⟩
        · exact bot_le
      · refine sSup_le fun y ⟨⟨i, hi⟩, hlt⟩ => ?_
        refine le_trans (le_of_eq ?_) (le_iSup (strike^[n + 1] x) i)
        rw [ih.2 i, hi, if_pos hlt]
    refine ⟨h0, step (n + 1) h0 fun i => ?_⟩
    rw [ih.2 i]
    split
    · exact .inl rfl
    · exact .inr ⟨rfl, (lead_succ_le _ n).trans (not_lt.1 ‹_›)⟩

/-- The greatest value after some rounds of striking out the greatest. -/
theorem iSup_strike {ι : Type*} (x : ι → α) (n : ℕ) : (⨆ i, (strike^[n] x) i) = lead (Set.range x) n :=
  (strike_apply x n).1

end Cert.TopK

end
-- ==== Proof.Rounds.lean ====
/-
Rounds of "the greatest of each row, then that value struck out of the row" on vectors of the kernel's three shapes, and
what they take at the ideal values: the row's distinct values from the greatest down.
-/
module

public import proofs.«01_k».proof.Proof.Values
public import proofs.«01_k».proof.Proof.Lead
public import Idealize.ShloMosaic.Lib.Pointwise
public import Mathlib.Data.EReal.Basic

@[expose] public section

noncomputable section

namespace Cert.TopK

open Cert.KernelIdeal Cert.KernelIdeal.Gen
open Idealize.ShloMosaic

section
variable {F : FTy → Type} [FloatOps F] {s u : Shape} {axes : List (Fin s.rank)}

/-- The greatest element of each row. -/
def maxes (h : s.Reduces axes S512) (v : FVec F s .f32) : VC F :=
  multiReduction .maximumf axes S512 v 0xFF800000#32 h (.inl rfl) rfl

/-- The vector with every element that equals its row's greatest struck out. -/
def struck (h : s.Reduces axes S512) (hc : S512.ShapeCasts u) (hb : u.Broadcasts s) (v : FVec F s .f32) : FVec F s .f32 :=
  select (cmpf .oeq v (broadcastTo s (shapeCast u (maxes h v) hc) hb)) (broadcast s (Scalar.ofBits .f32 0xFF800000#32)) v

end

/-- The pattern of the least value denotes it. -/
theorem ofBits_neg_inf : (FloatOps.ofBits .f32 0xFF800000#32 : Ideal .f32) = (⊥ : EReal) := by
  simp [Ideal.ofBits, Ideal.ieee]

section
variable {s u : Shape} {axes : List (Fin s.rank)}

/-- A row's greatest, at the ideal values, is the supremum of its elements. -/
theorem maxes_apply (h : s.Reduces axes S512) (v : FVec Ideal s .f32) (r : S512.Idx) :
    maxes h v r = ⨆ i : {i : s.Idx // h.drop i = r}, (v i.1 : EReal) := by
  refine (multiReduction_maximumf_eq_fold v _ h _ _ r).trans ?_
  rw [ofBits_neg_inf]
  refine Eq.trans (b := (Finset.univ.filter fun i => h.drop i = r).sup (fun i => (v i : EReal))) rfl ?_
  rw [Finset.sup_eq_iSup, iSup_subtype]
  simp

/-- One round on one row is the striking out of the row's greatest. -/
theorem struck_row (h : s.Reduces axes S512) (hc : S512.ShapeCasts u) (hb : u.Broadcasts s)
    (hd : ∀ (w : FVec Ideal S512 .f32) i, broadcastTo s (shapeCast u w hc) hb i = w (h.drop i)) (v : FVec Ideal s .f32) (r : S512.Idx) :
    (fun i : {i : s.Idx // h.drop i = r} => (struck h hc hb v i.1 : EReal))
      = strike fun i : {i : s.Idx // h.drop i = r} => (v i.1 : EReal) := by
  funext i
  rw [strike, ← maxes_apply h v r]
  show Scalar.select (FloatOps.cmpf .oeq (v i.1) (broadcastTo s (shapeCast u (maxes h v) hc) hb i.1)) _ (v i.1) = _
  rw [hd, i.2, Ideal.cmpf_def]
  by_cases e : (v i.1 : EReal) = maxes h v r
  · rw [if_pos e, e]
    simp [Ideal.cmp, Scalar.select]
    exact ofBits_neg_inf
  · rw [if_neg e]
    simp [Ideal.cmp, Scalar.select, e]

/-- After `n` rounds a row's greatest is the row's distinct value number `n`. -/
theorem maxes_rounds (h : s.Reduces axes S512) (hc : S512.ShapeCasts u) (hb : u.Broadcasts s)
    (hd : ∀ (w : FVec Ideal S512 .f32) i, broadcastTo s (shapeCast u w hc) hb i = w (h.drop i)) (v : FVec Ideal s .f32) (n : ℕ)
    (r : S512.Idx) :
    maxes h ((struck h hc hb)^[n] v) r = lead {x : EReal | ∃ i, h.drop i = r ∧ x = v i} n := by
  have e : (fun i : {i : s.Idx // h.drop i = r} => ((struck h hc hb)^[n] v i.1 : EReal))
      = strike^[n] fun i : {i : s.Idx // h.drop i = r} => (v i.1 : EReal) := by
    induction n with
    | zero => rfl
    | succ n ih => rw [Function.iterate_succ_apply', Function.iterate_succ_apply', ← ih]; exact struck_row h hc hb hd _ r
  rw [maxes_apply]
  refine (congrArg (fun f : {i : s.Idx // h.drop i = r} → EReal => ⨆ i, f i) e).trans ?_
  rw [iSup_strike]
  congr 1
  ext x
  exact ⟨fun ⟨i, hi⟩ => ⟨i.1, i.2, hi.symm⟩, fun ⟨i, hi, hx⟩ => ⟨⟨i, hi⟩, hx.symm⟩⟩

end

end Cert.TopK

end
-- ==== Proof.Stored.lean ====
/-
The sixteen values a device stores in its slot, and the sixteen it makes of the four slots, as rounds of striking out.
-/
module

public import proofs.«01_k».proof.Proof.Rounds

@[expose] public section

noncomputable section

namespace Cert.TopK

open Cert.KernelIdeal Cert.KernelIdeal.Gen
open Idealize.ShloMosaic

section
variable {F : FTy → Type} [FloatOps F]

/-- The rounds on a block. -/
def roundX : VX F → VX F := struck reduces_S512x4096_S512 shapeCasts_S512_S512x1 broadcasts_S512x1_S512x4096
/-- The rounds on the candidates. -/
def roundK : VK F → VK F := struck reduces_S512x1280_S512 shapeCasts_S512_S512x1 broadcasts_S512x1_S512x1280
/-- The rounds on the four slots. -/
def roundS : VS F → VS F := struck reduces_S4x512x16_S512 shapeCasts_S512_S1x512x1 broadcasts_S1x512x1_S4x512x16

/-- A column as a one-column vector. -/
@[reducible] def asCol (v : VC F) : V1 F := shapeCast S512x1 v shapeCasts_S512_S512x1

/-- Sixteen columns side by side. -/
@[reducible] def stack (f : ℕ → VC F) : FVec F S512x16 .f32 :=
  concatenate S512x16 1 [⟨S512x1, asCol (f 0)⟩, ⟨S512x1, asCol (f 1)⟩, ⟨S512x1, asCol (f 2)⟩, ⟨S512x1, asCol (f 3)⟩, ⟨S512x1, asCol (f 4)⟩, ⟨S512x1, asCol (f 5)⟩, ⟨S512x1, asCol (f 6)⟩, ⟨S512x1, asCol (f 7)⟩, ⟨S512x1, asCol (f 8)⟩, ⟨S512x1, asCol (f 9)⟩, ⟨S512x1, asCol (f 10)⟩, ⟨S512x1, asCol (f 11)⟩, ⟨S512x1, asCol (f 12)⟩, ⟨S512x1, asCol (f 13)⟩, ⟨S512x1, asCol (f 14)⟩, ⟨S512x1, asCol (f 15)⟩] concatenates_S512x1_S512x1_S512x1_S512x1_S512x1_S512x1_S512x1_S512x1_S512x1_S512x1_S512x1_S512x1_S512x1_S512x1_S512x1_S512x1_S512x16_d1

/-- The candidates of a block: each lane's five largest. -/
def cands (X : VX F) : VK F := k0_pay170 (q6 X).1 (q6 X).2.1 (q6 X).2.2.2.1 (q6 X).2.2.2.2.1 (q6 X).2.2.2.2.2.1 (q6 X).2.2.2.2.2.2

/-- The block as it is loaded whole. -/
def loaded (X : VX F) : VX F :=
  k0_pay2 ((Memref.whole cc0_stg0_0 : Memref sig .tc .vmem S512x4096 .f32).view.readAt (Elt F) (Rect.unit (s := S512x4096) ![0, 0] S512x4096.size inb_S512x4096_S512x4096_0_0).toLoadRect X)

/-- The four slots as they are loaded. -/
def gathered (G : VS F) : VS F :=
  (Memref.whole cc0_scratch0 : Memref sig .tc .vmem S4x512x16 .f32).view.readAt (Elt F) (Rect.unit (s := S4x512x16) ![0, 0, 0] S4x512x16.size inb_S4x512x16_S4x512x16_0_0_0).toLoadRect G

/-- The greatest of each row after some rounds, of a block, of the candidates, of the slots. -/
def topX (X : VX F) (n : ℕ) : VC F := maxes reduces_S512x4096_S512 (roundX^[n] X)
def topK (v : VK F) (n : ℕ) : VC F := maxes reduces_S512x1280_S512 (roundK^[n] v)
def topS (G : VS F) (n : ℕ) : VC F := maxes reduces_S4x512x16_S512 (roundS^[n] G)

/-- Rounds on what earlier rounds left are later rounds. -/
theorem topX_add (X : VX F) (m n : ℕ) : topX (roundX^[m] X) n = topX X (n + m) := by
  rw [topX, topX, Function.iterate_add_apply]
theorem topK_add (v : VK F) (m n : ℕ) : topK (roundK^[m] v) n = topK v (n + m) := by
  rw [topK, topK, Function.iterate_add_apply]

/-- The first piece of the rounds on a block, and the second. -/
theorem q1_eq (X : VX F) : q1 X = ⟨topX (loaded X) 0, topX (loaded X) 1, topX (loaded X) 2, topX (loaded X) 3, topX (loaded X) 4, topX (loaded X) 5, topX (loaded X) 6, roundX^[7] (loaded X)⟩ := rfl
theorem p2_eq (v : VX F) : p2 v = ⟨topX v 0, topX v 1, topX v 2, topX v 3, topX v 4, topX v 5, topX v 6, roundX^[7] v, topX v 7, broadcastTo S512x4096 (asCol (topX v 7)) broadcasts_S512x1_S512x4096⟩ := rfl

/-- The first piece of the rounds on the candidates, and the second. -/
theorem q7_eq (X : VX F) : q7 X = ⟨(q7 X).1, topK (cands X) 0, topK (cands X) 1, topK (cands X) 2, topK (cands X) 3, topK (cands X) 4, topK (cands X) 5, roundK^[6] (cands X), topK (cands X) 6, cmpf .oeq (roundK^[6] (cands X)) (broadcastTo S512x1280 (asCol (topK (cands X) 6)) broadcasts_S512x1_S512x1280), Scalar.ofBits .f32 0xFF800000#32⟩ := rfl
theorem p8_eq (v : VK F) : p8 v (cmpf .oeq v (broadcastTo S512x1280 (asCol (topK v 0)) broadcasts_S512x1_S512x1280)) (Scalar.ofBits .f32 0xFF800000#32)
    = ⟨topK v 1, topK v 2, topK v 3, topK v 4, topK v 5, topK v 6, topK v 7, roundK^[8] v, topK v 8⟩ := rfl

theorem q2_eq (X : VX F) : q2 X = ⟨topX (loaded X) 7, topX (loaded X) 8, topX (loaded X) 9, topX (loaded X) 10, topX (loaded X) 11, topX (loaded X) 12, topX (loaded X) 13, roundX^[14] (loaded X), topX (loaded X) 14, broadcastTo S512x4096 (asCol (topX (loaded X) 14)) broadcasts_S512x1_S512x4096⟩ := by
  rw [q2, q1_eq, p2_eq]
  simp only [topX_add, ← Function.iterate_add_apply]

theorem q8_eq (X : VX F) : q8 X = ⟨topK (cands X) 7, topK (cands X) 8, topK (cands X) 9, topK (cands X) 10, topK (cands X) 11, topK (cands X) 12, topK (cands X) 13, roundK^[14] (cands X), topK (cands X) 14⟩ := by
  rw [q8, q7_eq, show topK (cands X) 6 = topK (roundK^[6] (cands X)) 0 from rfl, p8_eq]
  simp only [topK_add, ← Function.iterate_add_apply]

/-- The sixteenth candidate's column, as the test computes it. -/
theorem star_eq (X : VX F) : k0_pay201 (roundK^[14] (cands X)) (topK (cands X) 14) = topK (cands X) 15 := rfl

/-- The block's sixteenth column, as the last piece computes it. -/
theorem last_eq (Z : VX F) : multiReduction .maximumf [1] S512 (k0_pay204 (roundX^[14] Z) (cmpf .oeq (roundX^[14] Z) (broadcastTo S512x4096 (asCol (topX Z 14)) broadcasts_S512x1_S512x4096))) 0xFF800000#32 reduces_S512x4096_S512 (.inl rfl) rfl = topX Z 15 := rfl

/-- What a device stores of its whole block: sixteen rounds. -/
theorem allStored_eq (X : VX F) : allStored X = shapeCast S1x512x16 (stack (topX (loaded X))) shapeCasts_S512x16_S1x512x16 := by
  rw [allStored, q1_eq, q2_eq]
  dsimp only [k0_pay205]
  rw [last_eq]

/-- What a device stores of the candidates: sixteen rounds. -/
theorem fewStored_eq (X : VX F) : fewStored X = shapeCast S1x512x16 (stack (topK (cands X))) shapeCasts_S512x16_S1x512x16 := by
  rw [fewStored, q8_eq, q7_eq]
  dsimp only [k0_pay203]
  rw [star_eq]

set_option maxRecDepth 65536 in
/-- The result made of the slots: sixteen rounds. -/
theorem merged_eq (G : VS F) : merged G = stack (topS (gathered G)) := rfl

/-- The test that sends a device to its whole block, its operands by the rounds. -/
theorem crowded_eq (X : VX F) : crowded X = Scalar.cmpf .ogt (k0_pay202 (q7 X).1 (roundK^[14] (cands X)) (topK (cands X) 14)) (Scalar.ofBits .f32 0x00000000#32) := by
  rw [crowded, q8_eq]

end

theorem drop_block (w : FVec Ideal S512 .f32) (i : S512x4096.Idx) :
    broadcastTo S512x4096 (shapeCast S512x1 w shapeCasts_S512_S512x1) broadcasts_S512x1_S512x4096 i = w (reduces_S512x4096_S512.drop i) := by
  pointwise
  exact congrArg w (funext fun a => Fin.ext (by
    obtain rfl : a = 0 := Subsingleton.elim _ _
    rfl))

theorem drop_cands (w : FVec Ideal S512 .f32) (i : S512x1280.Idx) :
    broadcastTo S512x1280 (shapeCast S512x1 w shapeCasts_S512_S512x1) broadcasts_S512x1_S512x1280 i = w (reduces_S512x1280_S512.drop i) := by
  pointwise
  exact congrArg w (funext fun a => Fin.ext (by
    obtain rfl : a = 0 := Subsingleton.elim _ _
    rfl))

theorem drop_slots (w : FVec Ideal S512 .f32) (i : S4x512x16.Idx) :
    broadcastTo S4x512x16 (shapeCast S1x512x1 w shapeCasts_S512_S1x512x1) broadcasts_S1x512x1_S4x512x16 i = w (reduces_S4x512x16_S512.drop i) := by
  pointwise
  exact congrArg w (funext fun a => Fin.ext (by
    obtain rfl : a = 0 := Subsingleton.elim _ _
    rfl))

theorem stack_apply (f : ℕ → VC Ideal) (r : Fin 512) (j : Fin 16) : stack f (ix2 r j) = f j (ix1 r) := by
  fin_cases j
  all_goals
    unfold stack asCol
    pointwise
    try rfl

end Cert.TopK

end
-- ==== Proof.Network.lean ====
/-
The insertion network: sixteen values put one after another into a list of at most six, each pushed down from the greatest.
What the list keeps, and that what it drops is no greater than the last it keeps.
-/
module

public import Mathlib.Order.Lattice
public import Mathlib.Order.Defs.LinearOrder
public import Mathlib.Data.List.Perm.Basic

@[expose] public section

namespace Cert.TopK

section
variable {α : Type*} (mx mn : α → α → α)

/-- Pushes `c` down a list: at each entry the greater stays and the lesser goes on. The list after, and what comes out. -/
def pass : List α → α → List α × α
  | [], c => ([], c)
  | t :: ts, c => (mx t c :: (pass ts (mn t c)).1, (pass ts (mn t c)).2)

/-- One value put into a list of at most six: what comes out is kept while there is room. -/
def step (ts : List α) (c : α) : List α :=
  if ts.length < 6 then (pass mx mn ts c).1 ++ [(pass mx mn ts c).2] else (pass mx mn ts c).1

/-- Pushing down a list in two parts. -/
theorem pass_append (l l' : List α) (c : α) :
    pass mx mn (l ++ l') c = ((pass mx mn l c).1 ++ (pass mx mn l' (pass mx mn l c).2).1, (pass mx mn l' (pass mx mn l c).2).2) := by
  induction l generalizing c with
  | nil => rfl
  | cons t ts ih => simp only [List.cons_append, pass, ih]

/-- Pushing down keeps the list's length. -/
theorem length_pass (l : List α) (c : α) : (pass mx mn l c).1.length = l.length := by
  induction l generalizing c with
  | nil => rfl
  | cons t ts ih => simp only [pass, List.length_cons, ih]

/-- A map that carries the two operations over carries the pushing over. -/
theorem map_pass {β : Type*} (mx' mn' : β → β → β) (f : α → β) (hx : ∀ a b, f (mx a b) = mx' (f a) (f b))
    (hn : ∀ a b, f (mn a b) = mn' (f a) (f b)) (l : List α) (c : α) :
    ((pass mx mn l c).1.map f, f (pass mx mn l c).2) = pass mx' mn' (l.map f) (f c) := by
  induction l generalizing c with
  | nil => rfl
  | cons t ts ih =>
    simp only [List.map_cons, pass, hx]
    rw [← hn, ← ih]

/-- And the whole network. -/
theorem map_steps {β : Type*} (mx' mn' : β → β → β) (f : α → β) (hx : ∀ a b, f (mx a b) = mx' (f a) (f b))
    (hn : ∀ a b, f (mn a b) = mn' (f a) (f b)) (xs : List α) (l : List α) :
    (xs.foldl (step mx mn) l).map f = (xs.map f).foldl (step mx' mn') (l.map f) := by
  induction xs generalizing l with
  | nil => rfl
  | cons x xs ih =>
    rw [List.foldl_cons, ih, List.map_cons, List.foldl_cons]
    congr 1
    have e := map_pass mx mn mx' mn' f hx hn l x
    rw [step, step, List.length_map, ← e]
    split <;> simp

end

section
variable {α : Type*} [LinearOrder α]

/-- Pushing down rearranges the values. -/
theorem pass_perm (l : List α) (c : α) : ((pass max min l c).2 :: (pass max min l c).1).Perm (c :: l) := by
  induction l generalizing c with
  | nil => exact .refl _
  | cons t ts ih =>
    refine (List.Perm.swap _ _ _).trans ?_
    refine ((ih (min t c)).cons (max t c)).trans ?_
    rcases le_total t c with h | h
    · rw [max_eq_right h, min_eq_left h]
    · rw [max_eq_left h, min_eq_right h]
      exact List.Perm.swap _ _ _

/-- A network that is full (six entries, the last one `a` at least what was dropped): every value put in so far is in the list
    or at most the list's last entry. -/
def Keeps (xs ts : List α) : Prop :=
  (∀ t ∈ ts, t ∈ xs) ∧ (∀ x ∈ xs, x ∈ ts ∨ ∃ a, ts[5]? = some a ∧ x ≤ a) ∧ ts.length ≤ 6

/-- What comes out of a full list is at most its last entry, and the last entry does not fall. -/
theorem pass_last (l : List α) (b c : α) : ∃ a, (pass max min (l ++ [b]) c).1 = (pass max min l c).1 ++ [a]
    ∧ (pass max min (l ++ [b]) c).2 ≤ a ∧ b ≤ a := by
  refine ⟨max b (pass max min l c).2, ?_, ?_, le_max_left _ _⟩
  · rw [pass_append]; rfl
  · rw [pass_append]; exact (min_le_right _ _).trans (le_max_right _ _)

/-- Putting a value in keeps the network's property. -/
theorem Keeps.step {xs ts : List α} (h : Keeps xs ts) (c : α) : Keeps (c :: xs) (step max min ts c) := by
  have hp := pass_perm ts c
  by_cases hl : ts.length < 6
  · have e : TopK.step max min ts c = (pass max min ts c).1 ++ [(pass max min ts c).2] := if_pos hl
    have hp' : (TopK.step max min ts c).Perm (c :: ts) := by
      rw [e]; exact (List.perm_append_singleton _ _).trans hp
    refine ⟨fun t ht => ?_, fun x hx => ?_, ?_⟩
    · rcases List.mem_cons.1 (hp'.mem_iff.1 ht) with h' | h'
      · exact h' ▸ List.mem_cons_self
      · exact List.mem_cons_of_mem _ (h.1 t h')
    · refine .inl (hp'.mem_iff.2 ?_)
      rcases List.mem_cons.1 hx with h' | h'
      · exact h' ▸ List.mem_cons_self
      · rcases h.2.1 x h' with h'' | ⟨a, ha, -⟩
        · exact List.mem_cons_of_mem _ h''
        · rw [List.getElem?_eq_none (by omega)] at ha; cases ha
    · rw [hp'.length_eq, List.length_cons]; omega
  · have e : TopK.step max min ts c = (pass max min ts c).1 := if_neg hl
    have hlen : ts.length = 6 := by have := h.2.2; omega
    obtain ⟨l, b, hb⟩ : ∃ l b, ts = l ++ [b] :=
      ⟨ts.dropLast, ts.getLast (by rintro rfl; cases hlen), (List.dropLast_append_getLast _).symm⟩
    subst hb
    obtain ⟨a, ha, hd, hba⟩ := pass_last l b c
    have hl5 : l.length = 5 := by simpa using hlen
    have hget : ((pass max min (l ++ [b]) c).1)[5]? = some a := by
      rw [ha, List.getElem?_append_right (by rw [length_pass]; omega), length_pass, hl5]; rfl
    have hgetb : (l ++ [b])[5]? = some b := by
      rw [List.getElem?_append_right (by omega), hl5]; rfl
    rw [e]
    have key : ∀ x, x ∈ c :: (l ++ [b]) → x ∈ (pass max min (l ++ [b]) c).1 ∨ x ≤ a := fun x hx => by
      rcases List.mem_cons.1 (hp.mem_iff.2 hx) with h' | h'
      · exact .inr (h' ▸ hd)
      · exact .inl h'
    refine ⟨fun t ht => ?_, fun x hx => ?_, by rw [length_pass]; omega⟩
    · rcases List.mem_cons.1 (hp.mem_iff.1 (List.mem_cons_of_mem _ ht)) with h' | h'
      · exact h' ▸ List.mem_cons_self
      · exact List.mem_cons_of_mem _ (h.1 t h')
    · have : x ∈ c :: (l ++ [b]) ∨ x ≤ b := by
        rcases List.mem_cons.1 hx with h' | h'
        · exact .inl (h' ▸ List.mem_cons_self)
        · rcases h.2.1 x h' with h'' | ⟨a', ha', hle⟩
          · exact .inl (List.mem_cons_of_mem _ h'')
          · rw [hgetb] at ha'; cases ha'; exact .inr hle
      rcases this with h' | h'
      · exact (key x h').imp_right fun h' => ⟨a, hget, h'⟩
      · exact .inr ⟨a, hget, h'.trans hba⟩

/-- The whole network has the property. -/
theorem keeps_steps (ys xs ts : List α) (h : Keeps xs ts) : Keeps (ys.reverse ++ xs) (ys.foldl (step max min) ts) := by
  induction ys generalizing xs ts with
  | nil => exact h
  | cons y ys ih =>
    rw [List.reverse_cons, List.append_assoc, List.foldl_cons]
    exact ih _ _ (h.step y)

/-- Of the network's six entries the first five are among the values put in, and every value is one of those or at most the
    sixth. -/
theorem network {ys : List α} {t0 t1 t2 t3 t4 t5 : α} (h : [t0, t1, t2, t3, t4, t5] = ys.foldl (step max min) []) :
    (∀ t ∈ [t0, t1, t2, t3, t4], t ∈ ys) ∧ ∀ x ∈ ys, x ∈ [t0, t1, t2, t3, t4] ∨ x ≤ t5 := by
  have k := keeps_steps ys [] [] ⟨by simp, by simp, by simp⟩
  rw [← h, List.append_nil] at k
  refine ⟨fun t ht => List.mem_reverse.1 (k.1 t ?_), fun x hx => ?_⟩
  · rw [show [t0, t1, t2, t3, t4, t5] = [t0, t1, t2, t3, t4] ++ [t5] from rfl]
    exact List.mem_append_left _ ht
  · rcases k.2.1 x (List.mem_reverse.2 hx) with h' | ⟨a, ha, hle⟩
    · rw [show [t0, t1, t2, t3, t4, t5] = [t0, t1, t2, t3, t4] ++ [t5] from rfl, List.mem_append] at h'
      exact h'.imp_right fun h' => (List.mem_singleton.1 h').le
    · cases ha
      exact .inr hle

end

end Cert.TopK
-- ==== Proof.Lanes.lean ====
/-
The kernel's insertion network on the sixteen slices of a block, lane by lane.
-/
module

public import proofs.«01_k».proof.Proof.Stored
public import proofs.«01_k».proof.Proof.Network

@[expose] public section

noncomputable section

namespace Cert.TopK

open Cert.KernelIdeal Cert.KernelIdeal.Gen
open Idealize.ShloMosaic

section
variable {F : FTy → Type} [FloatOps F]

/-- A slice as the network takes it. -/
abbrev asLane (v : VL F) : VL F := shapeCast S512x256 v shapeCasts_S512x256_S512x256

/-- The slices of a block, in the order they are put into the network. -/
abbrev slices0 (X : VX F) : List (VL F) :=
  [asLane (cols 0 inb_S512x4096_S512x256_0_0 X), asLane (cols 256 inb_S512x4096_S512x256_0_256 X), asLane (cols 512 inb_S512x4096_S512x256_0_512 X)]
abbrev slices1 (X : VX F) : List (VL F) :=
  [asLane (cols 768 inb_S512x4096_S512x256_0_768 X), asLane (cols 1024 inb_S512x4096_S512x256_0_1024 X), asLane (cols 1280 inb_S512x4096_S512x256_0_1280 X), asLane (cols 1536 inb_S512x4096_S512x256_0_1536 X), asLane (cols 1792 inb_S512x4096_S512x256_0_1792 X)]
abbrev slices2 (X : VX F) : List (VL F) :=
  [asLane (cols 2048 inb_S512x4096_S512x256_0_2048 X), asLane (cols 2304 inb_S512x4096_S512x256_0_2304 X), asLane (cols 2560 inb_S512x4096_S512x256_0_2560 X), asLane (cols 2816 inb_S512x4096_S512x256_0_2816 X)]
abbrev slices3 (X : VX F) : List (VL F) :=
  [asLane (cols 3072 inb_S512x4096_S512x256_0_3072 X), asLane (cols 3328 inb_S512x4096_S512x256_0_3328 X), asLane (cols 3584 inb_S512x4096_S512x256_0_3584 X), asLane (cols 3840 inb_S512x4096_S512x256_0_3840 X)]

/-- One slice put into the network. -/
abbrev put : List (VL F) → VL F → List (VL F) := step maximumf minimumf

/-- The network with a slice half-way through it, `c` on its way to the last three, brought to its end. -/
abbrev finish (a0 a1 a2 a3 a4 a5 c : VL F) : List (VL F) := [a0, a1, a2] ++ (pass maximumf minimumf [a3, a4, a5] c).1

theorem p3_eq (X : VX F) : (slices0 X).foldl put [] = [(p3 X).1, (p3 X).2.1, (p3 X).2.2] := rfl

set_option maxRecDepth 65536 in
theorem p4_eq (X : VX F) (a b c : VL F) : (slices1 X).foldl put [a, b, c]
    = finish (p4 X a b c).2.2.2.1 (p4 X a b c).2.2.2.2.1 (p4 X a b c).2.2.2.2.2.1 (p4 X a b c).1 (p4 X a b c).2.1 (p4 X a b c).2.2.1 (p4 X a b c).2.2.2.2.2.2 := rfl

set_option maxRecDepth 65536 in
theorem p5_eq (X : VX F) (a3 a4 a5 a0 a1 a2 c : VL F) : (slices2 X).foldl put (finish a0 a1 a2 a3 a4 a5 c)
    = finish (p5 X a3 a4 a5 a0 a1 a2 c).2.2.2.1 (p5 X a3 a4 a5 a0 a1 a2 c).2.2.2.2.1 (p5 X a3 a4 a5 a0 a1 a2 c).2.2.2.2.2.1 (p5 X a3 a4 a5 a0 a1 a2 c).1 (p5 X a3 a4 a5 a0 a1 a2 c).2.1 (p5 X a3 a4 a5 a0 a1 a2 c).2.2.1 (p5 X a3 a4 a5 a0 a1 a2 c).2.2.2.2.2.2 := rfl

set_option maxRecDepth 65536 in
theorem p6_eq (X : VX F) (a3 a4 a5 a0 a1 a2 c : VL F) : (slices3 X).foldl put (finish a0 a1 a2 a3 a4 a5 c)
    = finish (p6 X a3 a4 a5 a0 a1 a2 c).2.2.2.1 (p6 X a3 a4 a5 a0 a1 a2 c).2.2.2.2.1 (p6 X a3 a4 a5 a0 a1 a2 c).2.2.2.2.2.1 (p6 X a3 a4 a5 a0 a1 a2 c).1 (p6 X a3 a4 a5 a0 a1 a2 c).2.1 (p6 X a3 a4 a5 a0 a1 a2 c).2.2.1 (p6 X a3 a4 a5 a0 a1 a2 c).2.2.2.2.2.2 := rfl

/-- A device's five candidates of each lane, greatest first. -/
def cand0 (X : VX F) : VL F := (q6 X).2.2.2.1
def cand1 (X : VX F) : VL F := (q6 X).2.2.2.2.1
def cand2 (X : VX F) : VL F := (q6 X).2.2.2.2.2.1
def cand3 (X : VX F) : VL F := maximumf (q6 X).1 (q6 X).2.2.2.2.2.2
def cand4 (X : VX F) : VL F := maximumf (q6 X).2.1 (minimumf (q6 X).1 (q6 X).2.2.2.2.2.2)

/-- The candidates side by side. -/
theorem cands_eq (X : VX F) : cands X = concatenate S512x1280 1 [⟨S512x256, cand0 X⟩, ⟨S512x256, cand1 X⟩, ⟨S512x256, cand2 X⟩, ⟨S512x256, cand3 X⟩, ⟨S512x256, cand4 X⟩] concatenates_S512x256_S512x256_S512x256_S512x256_S512x256_S512x1280_d1 := rfl

/-- The candidates and each lane's sixth are what the network keeps of the sixteen slices. -/
theorem network_eq (X : VX F) : [cand0 X, cand1 X, cand2 X, cand3 X, cand4 X, (q7 X).1]
    = (slices0 X ++ slices1 X ++ slices2 X ++ slices3 X).foldl put [] := by
  rw [List.foldl_append, List.foldl_append, List.foldl_append, p3_eq, p4_eq, p5_eq, p6_eq]
  rfl

end

end Cert.TopK

end
-- ==== Proof.Select.lean ====
/-
What a device stores in its slot, at the ideal values: the sixteen greatest distinct values of each row of its block,
whichever of the two ways it takes; and what it makes of the four slots.
-/
module

public import proofs.«01_k».proof.Proof.Lanes

@[expose] public section

noncomputable section

namespace Cert.TopK

open Cert.KernelIdeal Cert.KernelIdeal.Gen
open Idealize.ShloMosaic

/-- The values of one row of a block. -/
def rowX (X : VX Ideal) (r : Fin 512) : Set EReal := {x | ∃ c : Fin 4096, x = X (ix2 r c)}

/-- The five candidates of one lane. -/
def lane (X : VX Ideal) (r : Fin 512) (l : Fin 256) : List EReal :=
  [cand0 X (ix2 r l), cand1 X (ix2 r l), cand2 X (ix2 r l), cand3 X (ix2 r l), cand4 X (ix2 r l)]

/-- The values of one row of the candidates. -/
def rowK (X : VX Ideal) (r : Fin 512) : Set EReal :=
  {x | ∃ l : Fin 256, x ∈ lane X r l}

/-- The values of one row of the four slots. -/
def rowS (G : VS Ideal) (r : Fin 512) : Set EReal := {x | ∃ s : Fin 4, ∃ k : Fin 16, x = G (ix3 s r k)}

theorem cols_apply (o : ℕ) (h) (X : VX Ideal) (r : Fin 512) (l : Fin 256) :
    cols o h X (ix2 r l) = X (ix2 r ⟨o + l, by have := h 1; simp at this; omega⟩) :=
  congrArg X (funext fun a => Fin.ext (by
    fin_cases a
    · exact (Nat.zero_add _).trans (Nat.one_mul _)
    · exact congrArg (o + ·) (Nat.one_mul _)))

theorem loaded_eq (X : VX Ideal) : loaded X = X := by
  unfold loaded k0_pay2
  funext i
  pointwise
  exact congrArg X (funext fun a => Fin.ext (by
    fin_cases a
    · exact (Nat.zero_add _).trans (Nat.one_mul _)
    · exact (Nat.zero_add _).trans (Nat.one_mul _)))

theorem gathered_eq (G : VS Ideal) : gathered G = G := by
  funext i
  exact congrArg G (funext fun a => Fin.ext (by
    fin_cases a
    · exact (Nat.zero_add _).trans (Nat.one_mul _)
    · exact (Nat.zero_add _).trans (Nat.one_mul _)
    · exact (Nat.zero_add _).trans (Nat.one_mul _)))

theorem drop_eq_block (i : S512x4096.Idx) (r : Fin 512) : reduces_S512x4096_S512.drop i = ix1 r ↔ i 0 = r := by
  rw [funext_iff, Fin.forall_fin_one]
  exact Iff.rfl

theorem drop_eq_cands (i : S512x1280.Idx) (r : Fin 512) : reduces_S512x1280_S512.drop i = ix1 r ↔ i 0 = r := by
  rw [funext_iff, Fin.forall_fin_one]
  exact Iff.rfl

theorem drop_eq_slots (i : S4x512x16.Idx) (r : Fin 512) : reduces_S4x512x16_S512.drop i = ix1 r ↔ i 1 = r := by
  rw [funext_iff, Fin.forall_fin_one]
  exact Iff.rfl

theorem topX_apply (X : VX Ideal) (n : ℕ) (r : Fin 512) : topX X n (ix1 r) = lead (rowX X r) n := by
  refine (maxes_rounds _ _ _ drop_block X n (ix1 r)).trans (congrArg (lead · n) (Set.ext fun x => ?_))
  constructor
  · rintro ⟨i, hi, rfl⟩
    exact ⟨i 1, by rw [← (drop_eq_block i r).1 hi, ← eq_ix2]⟩
  · rintro ⟨c, rfl⟩
    exact ⟨ix2 r c, (drop_eq_block _ r).2 rfl, rfl⟩

theorem topS_apply (G : VS Ideal) (n : ℕ) (r : Fin 512) : topS G n (ix1 r) = lead (rowS G r) n := by
  refine (maxes_rounds _ _ _ drop_slots G n (ix1 r)).trans (congrArg (lead · n) (Set.ext fun x => ?_))
  constructor
  · rintro ⟨i, hi, rfl⟩
    exact ⟨i 0, i 2, by rw [← (drop_eq_slots i r).1 hi, ← eq_ix3]⟩
  · rintro ⟨s, k, rfl⟩
    exact ⟨ix3 s r k, (drop_eq_slots _ r).2 rfl, rfl⟩

/-- Five lanes' worth of columns side by side, at a column. -/
theorem five_apply (a b c d e : VL Ideal) (r : Fin 512) (k : Fin 5) (l : Fin 256) :
    concatenate S512x1280 1 [⟨S512x256, a⟩, ⟨S512x256, b⟩, ⟨S512x256, c⟩, ⟨S512x256, d⟩, ⟨S512x256, e⟩] concatenates_S512x256_S512x256_S512x256_S512x256_S512x256_S512x1280_d1 (ix2 r ⟨k.1 * 256 + l.1, by omega⟩)
      = (![a, b, c, d, e] k) (ix2 r l) := by
  have hl := l.2
  fin_cases k
  all_goals
    pointwise
  all_goals
    split_ifs
    all_goals first
      | omega
      | exact congrArg (fun z => c (ix2 r z)) (Fin.ext (by show _ = l.1; simp only []; omega))
      | exact congrArg (fun z => d (ix2 r z)) (Fin.ext (by show _ = l.1; simp only []; omega))
      | exact congrArg (fun z => e (ix2 r z)) (Fin.ext (by show _ = l.1; simp only []; omega))

theorem topK_apply (X : VX Ideal) (n : ℕ) (r : Fin 512) : topK (cands X) n (ix1 r) = lead (rowK X r) n := by
  have at_ : ∀ (k : Fin 5) (l : Fin 256), cands X (ix2 r ⟨k.1 * 256 + l.1, by omega⟩) = (![cand0 X, cand1 X, cand2 X, cand3 X, cand4 X] k) (ix2 r l) :=
    fun k l => by rw [cands_eq]; exact five_apply _ _ _ _ _ r k l
  refine (maxes_rounds _ _ _ drop_cands (cands X) n (ix1 r)).trans (congrArg (lead · n) (Set.ext fun x => ?_))
  constructor
  · rintro ⟨i, hi, rfl⟩
    obtain ⟨r', c, rfl⟩ : ∃ (r' : Fin 512) (c : Fin 1280), i = ix2 r' c := ⟨i 0, i 1, eq_ix2 i⟩
    obtain rfl : r' = r := (drop_eq_cands _ r).1 hi
    obtain ⟨k, l, rfl⟩ : ∃ (k : Fin 5) (l : Fin 256), c = ⟨k.1 * 256 + l.1, by omega⟩ :=
      ⟨⟨c.1 / 256, by omega⟩, ⟨c.1 % 256, by omega⟩, Fin.ext (by show c.1 = c.1 / 256 * 256 + c.1 % 256; omega)⟩
    refine ⟨l, ?_⟩
    rw [at_]
    fin_cases k <;> simp [lane]
  · rintro ⟨l, hl⟩
    obtain ⟨k, hk⟩ : ∃ k : Fin 5, x = (![cand0 X, cand1 X, cand2 X, cand3 X, cand4 X] k) (ix2 r l) := by
      simp only [lane, List.mem_cons, List.not_mem_nil, or_false] at hl
      rcases hl with h | h | h | h | h
      · exact ⟨0, h⟩
      · exact ⟨1, h⟩
      · exact ⟨2, h⟩
      · exact ⟨3, h⟩
      · exact ⟨4, h⟩
    exact ⟨ix2 r ⟨k.1 * 256 + l.1, by omega⟩, (drop_eq_cands _ r).2 rfl, hk.trans (at_ k l).symm⟩

/-- A slice, as the network takes it, at a lane. -/
theorem asLane_apply (o : ℕ) (h) (X : VX Ideal) (r : Fin 512) (l : Fin 256) :
    asLane (cols o h X) (ix2 r l) = X (ix2 r ⟨o + l, by have := h 1; simp at this; omega⟩) := by
  rw [← cols_apply o h X r l]
  generalize cols o h X = v
  pointwise

/-- The values put into the network at a lane: the lane's sixteen columns. -/
theorem mem_slices (X : VX Ideal) (r : Fin 512) (l : Fin 256) (x : EReal) :
    x ∈ (slices0 X ++ slices1 X ++ slices2 X ++ slices3 X).map (fun v => (v (ix2 r l) : EReal))
      ↔ ∃ k : Fin 16, x = X (ix2 r ⟨k.1 * 256 + l.1, by omega⟩) := by
  simp only [List.map_append, List.map_cons, List.map_nil, asLane_apply, List.mem_append, List.mem_cons, List.not_mem_nil, or_false, or_assoc]
  constructor
  · intro h
    rcases h with h | h | h | h | h | h | h | h | h | h | h | h | h | h | h | h
    · exact ⟨0, h⟩
    · exact ⟨1, h⟩
    · exact ⟨2, h⟩
    · exact ⟨3, h⟩
    · exact ⟨4, h⟩
    · exact ⟨5, h⟩
    · exact ⟨6, h⟩
    · exact ⟨7, h⟩
    · exact ⟨8, h⟩
    · exact ⟨9, h⟩
    · exact ⟨10, h⟩
    · exact ⟨11, h⟩
    · exact ⟨12, h⟩
    · exact ⟨13, h⟩
    · exact ⟨14, h⟩
    · exact ⟨15, h⟩
  · rintro ⟨k, rfl⟩
    fin_cases k <;> simp

/-- The network lane by lane: the candidates are the lane's, and the lane's other values are at most its sixth. -/
theorem lane_network (X : VX Ideal) (r : Fin 512) (l : Fin 256) :
    (∀ x ∈ lane X r l, x ∈ rowX X r)
      ∧ ∀ c : Fin 4096, c.1 % 256 = l → (X (ix2 r c) : EReal) ∈ lane X r l ∨ (X (ix2 r c) : EReal) ≤ (q7 X).1 (ix2 r l) := by
  have h := congrArg (List.map fun v : VL Ideal => (v (ix2 r l) : EReal)) (network_eq X)
  rw [map_steps maximumf minimumf max min (fun v : VL Ideal => (v (ix2 r l) : EReal)) (fun _ _ => rfl) (fun _ _ => rfl)] at h
  have n := network h
  refine ⟨fun x hx => ?_, fun c hc => n.2 _ ((mem_slices X r l _).2 ⟨⟨c.1 / 256, by omega⟩, ?_⟩)⟩
  · obtain ⟨k, hk⟩ := (mem_slices X r l x).1 (n.1 x hx)
    exact ⟨_, hk⟩
  · exact congrArg (fun z => X (ix2 r z)) (Fin.ext (by show c.1 = c.1 / 256 * 256 + l.1; omega))

/-- The one number of a one-element vector, taken out. -/
theorem extract_one (M : FVec Ideal S1 .f32) : extractAt ![0, 0, 0] (shapeCast S1x1x1 M shapeCasts_S1_S1x1x1) inpos_S1x1x1_p0_0_0 = M (ix1 0) := by
  unfold extractAt
  exact congrArg M (funext fun a => by
    obtain rfl : a = 0 := Subsingleton.elim _ _
    exact Subsingleton.elim (α := Fin 1) _ _)

/-- The greatest of all the elements is at least each. -/
theorem le_extract (g : VL Ideal) (r : Fin 512) (l : Fin 256) :
    (g (ix2 r l) : EReal) ≤ extractAt ![0, 0, 0] (shapeCast S1x1x1 (multiReduction .maximumf [1, 2] S1 (shapeCast S1x512x256 g shapeCasts_S512x256_S1x512x256) 0xFF800000#32 reduces_S1x512x256_S1 (.inl rfl) rfl) shapeCasts_S1_S1x1x1) inpos_S1x1x1_p0_0_0 := by
  generalize hG : shapeCast S1x512x256 g shapeCasts_S512x256_S1x512x256 = G
  have e : g (ix2 r l) = G (ix3 0 r l) := by
    rw [← hG]
    pointwise
  have key : ∀ j : S1.Idx, (G (ix3 0 r l) : EReal) ≤ multiReduction .maximumf [1, 2] S1 G 0xFF800000#32 reduces_S1x512x256_S1 (.inl rfl) rfl j := fun j => by
    refine le_trans ?_ (le_of_eq (multiReduction_maximumf_eq_fold G _ reduces_S1x512x256_S1 (.inl rfl) rfl j).symm)
    rw [show (FloatOps.ofBits .f32 (FKind.maximumf.neutral .f32 (.inl rfl)) : Ideal .f32) = (⊥ : EReal) from ofBits_neg_inf]
    refine Finset.le_sup (f := fun i => (G i : EReal)) (b := ix3 0 r l) (Finset.mem_filter.2 ⟨Finset.mem_univ _, ?_⟩)
    funext a
    obtain rfl : a = 0 := Subsingleton.elim _ _
    exact Subsingleton.elim (α := Fin 1) _ _
  rw [e, extract_one]
  exact key (ix1 0)

/-- The test's number is at least one where some lane's sixth reaches its row's sixteenth candidate. -/
theorem one_le_test (v : VL Ideal) (w : VK Ideal) (u : VC Ideal) (r : Fin 512) (l : Fin 256)
    (h : (k0_pay201 w u (ix1 r) : EReal) ≤ v (ix2 r l)) : (1 : EReal) ≤ k0_pay202 v w u := by
  unfold k0_pay202
  generalize k0_pay201 w u = z at h ⊢
  refine le_trans (le_of_eq ?_) (le_extract _ r l)
  pointwise
  rw [if_pos h]

/-- A number at least one is above zero, as the kernel compares. -/
theorem above_zero (t : Ideal .f32) (h : (1 : EReal) ≤ t) : Scalar.cmpf .ogt t (Scalar.ofBits .f32 0x00000000#32) = 1#1 := by
  show Ideal.cmp .ogt t (Ideal.ofBits .f32 0x00000000#32) = 1#1
  rw [show Ideal.ofBits .f32 0x00000000#32 = (0 : EReal) by simp [Ideal.ofBits, Ideal.ieee]]
  have : (0 : EReal) < t := lt_of_lt_of_le zero_lt_one h
  simp [Ideal.cmp, this]

/-- A device keeps to its candidates only where every lane's sixth is below its row's sixteenth candidate. -/
theorem not_crowded (X : VX Ideal) (h : crowded X ≠ 1#1) (r : Fin 512) (l : Fin 256) :
    ((q7 X).1 (ix2 r l) : EReal) < topK (cands X) 15 (ix1 r) := by
  by_contra hc
  refine h ((crowded_eq X).trans (above_zero _ (one_le_test _ _ _ r l ?_)))
  exact (le_of_eq (congrFun (star_eq X) (ix1 r))).trans (not_lt.1 hc)

/-- What a device stores: the sixteen greatest distinct values of each row of its block. -/
theorem stored_apply (X : VX Ideal) (r : Fin 512) (j : Fin 16) : stored X (ix3 0 r j) = lead (rowX X r) j := by
  have cast : ∀ f : ℕ → VC Ideal, shapeCast S1x512x16 (stack f) shapeCasts_S512x16_S1x512x16 (ix3 0 r j) = f j (ix1 r) := fun f => by
    rw [← stack_apply f r j]
    pointwise
  rw [stored]
  split
  · rw [allStored_eq, cast, loaded_eq, topX_apply]
  · rename_i h
    rw [fewStored_eq, cast, topK_apply]
    symm
    refine lead_eq_of_cover (k := 15) ?_ ?_ j (by omega)
    · rintro x ⟨l, hx⟩
      exact .inl ((lane_network X r l).1 x hx)
    · rintro x ⟨c, rfl⟩
      refine ((lane_network X r ⟨c.1 % 256, Nat.mod_lt _ (by norm_num)⟩).2 c rfl).imp (fun hx => ⟨_, hx⟩) fun hx => ?_
      rw [← topK_apply]
      exact hx.trans (not_crowded X h r _).le

/-- What is made of the four slots: the sixteen greatest distinct values of each row of them. -/
theorem merged_apply (G : VS Ideal) (r : Fin 512) (j : Fin 16) : merged G (ix2 r j) = lead (rowS G r) j := by
  rw [merged_eq, stack_apply, gathered_eq, topS_apply]

end Cert.TopK

end
-- ==== Proof.Whole.lean ====
/-
The result of the kernel, at the ideal values, on every device: column `j` of a row is the `j`-th of the distinct values
of the row of the whole array, the greatest first.
-/
module

public import proofs.«01_k».proof.Proof.Select
public import proofs.«01_k».proof.Proof.Launch
public import Idealize.ShloMosaic.Lib.LayoutAt

@[expose] public section

noncomputable section

namespace Cert.TopK

open Cert.KernelIdeal Cert.KernelIdeal.Gen
open Idealize.ShloMosaic Idealize.ShloMosaic.TcCoe

/-- The whole array, of which each device holds a block of the columns. -/
abbrev VW : Type := (⟨2, ![512, 16384]⟩ : Shape).Idx → Ideal .f32

/-- The values of one row of the whole array. -/
def rowW (A : VW) (r : Fin 512) : Set EReal := {x | ∃ k : Fin 16384, x = A (ix2 r k)}

variable (m : (ℓ : Loc nD τ sig) → Buf (Elt Ideal) ℓ) (ρ : Dev nD → PrngReg)

/-- The staged block is the device's argument. -/
theorem xstg_apply (c : Dev nD) (r : Fin 512) (k : Fin 4096) :
    xstg m ρ c (ix2 r k) = m ((c : Thread nD τ).loc main_arg0) (ix2 r k) :=
  congrArg (m ((c : Thread nD τ).loc main_arg0)) (funext fun a => Fin.ext (by
    fin_cases a
    · exact (Nat.zero_add _).trans (Nat.one_mul _)
    · exact (Nat.zero_add _).trans (Nat.one_mul _)))

/-- The block of the device at position `t` of any row of devices is columns `4096 t` onward. -/
theorem block_apply (A : VW) (c : Dev nD) (t : Fin 4) (r : Fin 512) (k : Fin 4096) :
    (Layout.blockN ⟨2, ![512, 4096]⟩ ⟨2, ![512, 16384]⟩ (Layout.meshBlock [2, 4, 4] ![[], [1]] (peer c t)) A) (ix2 r k)
      = A (ix2 r ⟨4096 * t.val + k.val, by have := t.isLt; have := k.isLt; omega⟩) := by
  have hc : ∀ c : Dev nD, ((Layout.meshBlock (n := nD) [2, 4, 4] (![[], [1]] : Fin 2 → List ℕ) c) 1).val = (yc c).val := by decide
  rw [Layout.blockN_apply]
  refine congrArg A (funext fun a => Fin.ext ?_)
  rw [Layout.TilesN.idx_val]
  fin_cases a
  · exact (congrArg (· + r.val) (Nat.zero_mul _)).trans (Nat.zero_add _)
  · refine (congrArg (fun z => z * 4096 + k.val) ((hc (peer c t)).trans (congrArg Fin.val (yc_peer c t)))).trans ?_
    show t.val * 4096 + k.val = 4096 * t.val + k.val
    omega

/-- The rows of the four blocks of a row of devices are together the row of the whole array. -/
theorem rows_eq (A : VW) (c : Dev nD) (r : Fin 512)
    (hA : ∀ c : Dev nD, m ((c : Thread nD τ).loc main_arg0)
      = Layout.blockN ⟨2, ![512, 4096]⟩ ⟨2, ![512, 16384]⟩ (Layout.meshBlock [2, 4, 4] ![[], [1]] c) A) :
    (⋃ t : Fin 4, rowX (xstg m ρ (peer c t)) r) = rowW A r := by
  have e : ∀ (t : Fin 4) (k : Fin 4096), xstg m ρ (peer c t) (ix2 r k)
      = A (ix2 r ⟨4096 * t.val + k.val, by have := t.isLt; have := k.isLt; omega⟩) := fun t k =>
    (xstg_apply m ρ (peer c t) r k).trans ((congrFun (hA (peer c t)) _).trans (block_apply A c t r k))
  ext x
  simp only [Set.mem_iUnion, rowX, rowW, Set.mem_setOf_eq]
  constructor
  · rintro ⟨t, k, rfl⟩
    exact ⟨_, e t k⟩
  · rintro ⟨k, rfl⟩
    have hq : ∀ q : Fin 16384, q.val = k.val → A (ix2 r q) = A (ix2 r k) := fun q h => by rw [Fin.ext h]
    refine ⟨⟨k.val / 4096, by have := k.isLt; omega⟩, ⟨k.val % 4096, Nat.mod_lt _ (by decide)⟩, ?_⟩
    rw [e]
    refine (hq _ ?_).symm
    dsimp only
    omega

/-- Column `j` of row `r` of the result, on every device: the `j`-th distinct value of row `r` of the whole array. -/
theorem outAt_apply (A : VW) (c : Dev nD) (r : Fin 512) (j : Fin 16)
    (hA : ∀ c : Dev nD, m ((c : Thread nD τ).loc main_arg0)
      = Layout.blockN ⟨2, ![512, 4096]⟩ ⟨2, ![512, 16384]⟩ (Layout.meshBlock [2, 4, 4] ![[], [1]] c) A) :
    (outAt m ρ c : S512x16.Idx → Ideal .f32) (ix2 r j) = lead (rowW A r) j := by
  have hs : ∀ (t : Fin 4) (k : Fin 16), full (sent m ρ) c (ix3 t r k) = lead (rowX (xstg m ρ (peer c t)) r) k := fun t k => by
    refine Eq.trans ?_ (stored_apply (xstg m ρ (peer c t)) r k)
    refine (congrArg (sent m ρ (peer c t)) (funext fun a => ?_) : full (sent m ρ) c (ix3 t r k) = sent m ρ (peer c t) (ix3 0 r k))
    fin_cases a <;> rfl
  refine (merged_apply (full (sent m ρ) c) r j).trans ?_
  rw [← rows_eq m ρ A c r hA]
  refine (lead_iUnion (α := EReal) (S := fun t => rowX (xstg m ρ (peer c t)) r) (T := rowS (full (sent m ρ) c) r) (k := 15) (fun t => Set.Finite.subset (Set.finite_range fun k : Fin 4096 => (xstg m ρ (peer c t) (ix2 r k) : EReal)) ?_) ?_ j.val (by have := j.isLt; omega)).symm
  · rintro x ⟨k, rfl⟩
    exact ⟨k, rfl⟩
  · ext x
    simp only [rowS, Set.mem_setOf_eq]
    constructor
    · rintro ⟨t, k, hx⟩
      exact ⟨t, k.val, by have := k.isLt; omega, hx.trans (hs t k)⟩
    · rintro ⟨t, k, hk, hx⟩
      exact ⟨t, ⟨k, by omega⟩, hx.trans (hs t ⟨k, by omega⟩).symm⟩

end Cert.TopK
-- ==== Proof.Sorted.lean ====
/-
The host's sort of a row at the ideal values, and the columns that `take_along_axis` reads: the first sixteen values
of a row in descending order.
-/
module

public import proofs.«01_k».proof.Proof.Lead
public import proofs.«01_k».proof.Proof.Gen.On_untied
public import Idealize.ShloMosaic.Lib.SortFacts
public import Idealize.ShloMosaic.Lib.ReduceAll
public import Idealize.ShloMosaic.Lib.Pointwise
public import Idealize.ShloMosaic.PureOps.Ideal.Laws

@[expose] public section

noncomputable section

namespace Cert.TopK

open Cert.On_untied Cert.On_untied.Gen
open Idealize.ShloMosaic

/-- One row of an array, put in descending order by a stable sort of the negated row: the position each place is read from. -/
def place (x : S512x16384.Idx → Ideal .f32) (r : Fin 512) : Fin 16384 → Fin 16384 :=
  sortedFrom fun k k' => decide (-(x (ix2 r k) : EReal) < -(x (ix2 r k') : EReal))

/-- The comparator of the sort is `<` of the first components. -/
theorem comparator_eq (a b : Ideal .f32 × BitVec 32) :
    comparator_f32_i32_d1 a b = BitVec.ofBool (decide ((a.1 : EReal) < (b.1 : EReal))) := by
  obtain ⟨a, p⟩ := a
  obtain ⟨b, q⟩ := b
  change EReal at a b
  have h0 : (FloatOps.ofBits .f32 0x00000000#32 : Ideal .f32) = (0 : EReal) := by
    simp [Ideal.ofBits_def, Ideal.ofBits, Ideal.ieee]
  unfold comparator_f32_i32_d1
  simp only [Ideal.cmpf_def, Ideal.cmpfTotal_def, h0, Scalar.select]
  have sel : ∀ a : EReal, (if Ideal.cmp .oeq a (0 : EReal) = 1 then (0 : EReal) else a) = a := by
    intro a
    by_cases h : a = 0 <;> simp [Ideal.cmp, h]
  have une : ∀ a : EReal, Ideal.cmp .une a a = 0#1 := by intro a; simp [Ideal.cmp]
  simp only [sel, une, show ¬ (0#1 = 1) by decide, if_false]
  rfl

/-- The order of the places is descending. -/
theorem place_antitone (x : S512x16384.Idx → Ideal .f32) (r : Fin 512) {i j : Fin 16384} (h : i ≤ j) :
    (x (ix2 r (place x r j)) : EReal) ≤ x (ix2 r (place x r i)) := by
  rcases h.lt_or_eq with h | rfl
  · have := sortedFrom_noInversion (fun k k' => decide (-(x (ix2 r k) : EReal) < -(x (ix2 r k') : EReal))) _
      (fun a b h => by simp only [decide_eq_true_eq, decide_eq_false_iff_not] at h ⊢; exact h.asymm) (fun a b h => h)
      (fun a b c h h' => by simp only [decide_eq_false_iff_not, not_lt] at h h' ⊢; exact h'.trans h) i j h
    simp only [decide_eq_false_iff_not, not_lt, EReal.neg_le_neg_iff] at this
    exact this
  · exact le_rfl

/-- The index vector that `argsort` makes. -/
theorem argsort_apply (x : S512x16384.Idx → Ideal .f32) (r : Fin 512) (k : Fin 16384) :
    fn_argsort (F := Ideal) (Host.negf x) (ix2 r k) = BitVec.ofNat 32 (place x r k).val := by
  unfold fn_argsort
  dsimp only
  unfold Host.sort2
  rw [dif_pos (show 1 < S512x16384.rank by decide)]
  dsimp only
  have al : ∀ k' : Fin 16384, (ix2 r k : S512x16384.Idx).along (1 : Fin 2) k' = ix2 r k' := fun k' =>
    funext fun a => by fin_cases a <;> rfl
  have hc : (fun k' k'' : Fin 16384 => comparator_f32_i32_d1 (F := Ideal)
      (Host.negf x ((ix2 r k : S512x16384.Idx).along (1 : Fin 2) k'), iotaInDim S512x16384 32 1 ((ix2 r k : S512x16384.Idx).along (1 : Fin 2) k'))
      (Host.negf x ((ix2 r k : S512x16384.Idx).along (1 : Fin 2) k''), iotaInDim S512x16384 32 1 ((ix2 r k : S512x16384.Idx).along (1 : Fin 2) k'')) == 1#1)
      = fun k' k'' => decide (-(x (ix2 r k') : EReal) < -(x (ix2 r k'') : EReal)) := by
    funext k' k''
    rw [comparator_eq, al k', al k'']
    show (BitVec.ofBool (decide (-(x (ix2 r k') : EReal) < -(x (ix2 r k'') : EReal))) == 1#1) = _
    cases decide (-(x (ix2 r k') : EReal) < -(x (ix2 r k'') : EReal)) <;> rfl
  have fin : ∀ q : Fin 16384, q = place x r k →
      iotaInDim S512x16384 32 1 ((ix2 r k : S512x16384.Idx).along (1 : Fin 2) q) = BitVec.ofNat 32 (place x r k).val := by
    intro q hq
    rw [← hq]
    have io : iotaInDim S512x16384 32 1 (ix2 r q) = BitVec.ofNat 32 q.val := by pointwise
    exact (congrArg (iotaInDim S512x16384 32 1) (al q)).trans io
  exact fin _ (congrArg (fun f : Fin 16384 → Fin 16384 → Bool => sortedFrom f k) hc)

/-- The gather of `take_along_axis` reads its row at the index it is given, brought within the row. -/
theorem gather_apply (x : S512x16384.Idx → Ideal .f32) (ix : IVec S512x16x1 32) (r : Fin 512) (j : Fin 16) :
    Host.gather gather_S512x16384_S512x16x1_S512x16_n_1_0_0_1_2_11 x ix (ix2 r j)
      = x (ix2 r ⟨min (ix (ix3 r j 0)).toInt.toNat 16383, by omega⟩) := by
  refine congrArg x (funext fun a => Fin.ext ?_)
  fin_cases a
  · show 0 + r.val + 0 = r.val
    omega
  · show min (ix _).toInt.toNat 16383 + 0 + 0 = min (ix (ix3 r j 0)).toInt.toNat 16383
    refine (congrArg (fun i => min (ix i).toInt.toNat 16383) (funext fun b => ?_) : _ = min (ix (ix3 r j 0)).toInt.toNat 16383)
    fin_cases b <;> rfl

/-- The index vector's word at a place within the row, read back. -/
theorem word_within (k : Fin 16384) : (BitVec.ofNat 32 k.val).toInt = (k.val : ℤ) := by
  have := k.isLt
  rw [BitVec.toInt_eq_toNat_of_lt (by rw [BitVec.toNat_ofNat]; omega), BitVec.toNat_ofNat]
  omega

/-- The gather at an index within the row reads the row there. -/
theorem gather_at (x : S512x16384.Idx → Ideal .f32) (ix : IVec S512x16x1 32) (r : Fin 512) (j : Fin 16) (k : Fin 16384)
    (h : ix (ix3 r j 0) = BitVec.ofNat 32 k.val) :
    Host.gather gather_S512x16384_S512x16x1_S512x16_n_1_0_0_1_2_11 x ix (ix2 r j) = x (ix2 r k) := by
  have := k.isLt
  rw [gather_apply]
  congr 2
  refine Fin.ext ?_
  show min (ix (ix3 r j 0)).toInt.toNat 16383 = k.val
  rw [h, word_within]
  omega

/-- `take_along_axis` at an index within the row reads the row there. -/
theorem take_apply (x : S512x16384.Idx → Ideal .f32) (ix : IVec S512x16 32) (r : Fin 512) (j : Fin 16) (k : Fin 16384)
    (h : ix (ix2 r j) = BitVec.ofNat 32 k.val) : fn_take_along_axis (F := Ideal) x ix (ix2 r j) = x (ix2 r k) := by
  unfold fn_take_along_axis
  pointwise
  have := k.isLt
  have h1 : IntOp.cmpi .slt (BitVec.ofNat 32 k.val) 0#32 = 0#1 := by
    simp only [IntOp.cmpi, BitVec.slt, word_within]
    rw [decide_eq_false (by simp)]
    rfl
  have h2 : IntOp.cmpi .sge (BitVec.ofNat 32 k.val) 0#32 = 1#1 := by
    simp only [IntOp.cmpi, BitVec.sle, word_within]
    rw [decide_eq_true (by simp)]
    rfl
  have h3 : IntOp.cmpi .sle (BitVec.ofNat 32 k.val) 16383#32 = 1#1 := by
    simp only [IntOp.cmpi, BitVec.sle, word_within]
    rw [decide_eq_true (by simp; omega)]
    rfl
  have h4 : IntOp.andi (1#1 : BitVec 1) 1#1 = 1#1 := rfl
  have sel : ∀ a b : BitVec 32, Scalar.select 0#1 a b = b := fun _ _ => rfl
  have sel' : ∀ a b : Ideal .f32, Scalar.select 1#1 a b = a := fun _ _ => rfl
  rw [gather_at x _ r j k (by pointwise; rw [h, h1, sel]), h]
  simp only [h1, h2, h3, h4, sel, Finset.univ_unique, Finset.fold_singleton, sel']

/-- The reference's function: the columns of a row in descending order, the first sixteen. -/
def top (x : S512x16384.Idx → Ideal .f32) : S512x16.Idx → Ideal .f32 :=
  fn_take_along_axis (F := Ideal) x
    (extractStridedSlice S512x16 ![0, 0] (fn_argsort (F := Ideal) (Host.negf x)) slices_S512x16384_S512x16_0_0)

theorem top_apply (x : S512x16384.Idx → Ideal .f32) (r : Fin 512) (j : Fin 16) :
    top x (ix2 r j) = x (ix2 r (place x r ⟨j.val, by have := j.isLt; omega⟩)) := by
  refine take_apply x _ r j _ ?_
  pointwise
  exact argsort_apply x r _

end Cert.TopK
-- ==== Proof.Firsts.lean ====
/-
A descending list with its repeated values dropped, and the leading values of a descending list.
-/
module

public import proofs.«01_k».proof.Proof.Lead
public import Mathlib.Data.Fin.Basic

@[expose] public section

namespace Cert.TopK

variable {α : Type*} [CompleteLinearOrder α] {N : ℕ}

/-- In a descending list of `N` values, the value at place `j` is the `j`-th of the distinct values when no two neighbours up
to `j` are equal, but for the least value of all. -/
theorem lead_of_descending (s : Fin N → α) (hs : ∀ a b, a ≤ b → s b ≤ s a) (j : Fin N)
    (h : ∀ a b : Fin N, b.val = a.val + 1 → b ≤ j → s b ≠ s a ∨ s a = ⊥) : lead (Set.range s) j = s j := by
  let t : ℕ → α := fun n => if h : n < N then s ⟨n, h⟩ else ⊥
  have ht : ∀ i : Fin N, t i = s i := fun i => dif_pos i.isLt
  have hr : Set.range s = {x | ∃ i, i < N ∧ x = t i} := by
    ext x
    constructor
    · rintro ⟨i, hi⟩
      exact ⟨i, i.isLt, hi.symm.trans (ht i).symm⟩
    · rintro ⟨i, hi, hx⟩
      exact ⟨⟨i, hi⟩, (ht ⟨i, hi⟩).symm.trans hx.symm⟩
  rw [hr, ← ht j]
  refine lead_of_sorted t (fun a b hab hb => ?_) j j.isLt (fun n hn => ?_)
  · have ha := ht ⟨a, by omega⟩
    have hb' := ht ⟨b, hb⟩
    simp only at ha hb'
    rw [ha, hb']
    exact hs _ _ hab
  · have hj := j.isLt
    have ha := ht ⟨n, by omega⟩
    have hb := ht ⟨n + 1, by omega⟩
    simp only at ha hb
    rw [ha, hb]
    exact h _ _ rfl (by rw [Fin.le_def]; exact hn)

/-- `w` is the descending list `s` with every value equal to the one before it replaced by the least value of all. -/
structure Firsts (s w : Fin N → α) : Prop where
  descending : ∀ a b, a ≤ b → s b ≤ s a
  zero : ∀ i : Fin N, i.val = 0 → w i = s i
  kept : ∀ a b : Fin N, b.val = a.val + 1 → s b ≠ s a → w b = s b
  dropped : ∀ a b : Fin N, b.val = a.val + 1 → s b = s a → w b = ⊥

namespace Firsts

variable {s w : Fin N → α} (hw : Firsts s w)
include hw

/-- A value left is the list's own, and one that is not least of all is left only at its first place. -/
theorem of_ne_bot (i : Fin N) (hi : w i ≠ ⊥) : w i = s i ∧ ∀ a : Fin N, a < i → s i ≠ s a := by
  by_cases h0 : i.val = 0
  · exact ⟨hw.zero i h0, fun a ha => absurd (Fin.lt_def.1 ha) (by omega)⟩
  · let p : Fin N := ⟨i.val - 1, by have := i.isLt; omega⟩
    have hp : i.val = p.val + 1 := by show i.val = i.val - 1 + 1; omega
    have hne : s i ≠ s p := fun e => hi (hw.dropped p i hp e)
    refine ⟨hw.kept p i hp hne, fun a ha e => hne ?_⟩
    refine le_antisymm (hw.descending p i (by rw [Fin.le_def]; omega)) ?_
    rw [e]
    exact hw.descending a p (by rw [Fin.le_def]; have := Fin.lt_def.1 ha; omega)

/-- No value but the least of all is left twice. -/
theorem injective (i i' : Fin N) (h : w i = w i') (hi : w i ≠ ⊥) : i = i' := by
  have h1 := hw.of_ne_bot i hi
  have h2 := hw.of_ne_bot i' (h ▸ hi)
  have e : s i = s i' := h1.1.symm.trans (h.trans h2.1)
  rcases lt_trichotomy i i' with hl | hl | hl
  · exact absurd e.symm (h2.2 i hl)
  · exact hl
  · exact absurd e (h1.2 i' hl)

/-- Every value of the list is left at some place. -/
theorem covers (n : ℕ) : ∀ i : Fin N, i.val = n → ∃ i', w i' = s i := by
  induction n with
  | zero => exact fun i hi => ⟨i, hw.zero i hi⟩
  | succ n ih =>
    intro i hi
    have hp : i.val = (⟨n, by have := i.isLt; omega⟩ : Fin N).val + 1 := hi
    by_cases e : s i = s ⟨n, by have := i.isLt; omega⟩
    · obtain ⟨i', h⟩ := ih ⟨n, by have := i.isLt; omega⟩ rfl
      exact ⟨i', h.trans e.symm⟩
    · exact ⟨i, hw.kept _ i hp e⟩

/-- Dropping the repeats changes no leading value. -/
theorem lead_eq (n : ℕ) : lead (Set.range w) n = lead (Set.range s) n := by
  refine (lead_eq_of_cover (k := n) ?_ ?_ n le_rfl).symm
  · rintro x ⟨i, rfl⟩
    by_cases h : w i = ⊥
    · exact Or.inr h
    · exact Or.inl ⟨i, (hw.of_ne_bot i h).1.symm⟩
  · rintro x ⟨i, rfl⟩
    obtain ⟨i', h⟩ := hw.covers i.val i rfl
    exact Or.inl ⟨i', h⟩

end Firsts

end Cert.TopK
-- ==== Proof.Host.lean ====
/-
The two references at the ideal values, read at an index: column `j` of the first is the `j`-th of a row's values in
descending order, which is the `j`-th of its distinct values where no two of the leading ones are equal; column `j` of the
second is the `j`-th of the distinct values everywhere.
-/
module

public import proofs.«01_k».proof.Proof.Sorted
public import proofs.«01_k».proof.Proof.Firsts
public import proofs.«01_k».proof.Proof.Gen.ReferenceIdeal.Run
public import proofs.«01_k».proof.Proof.Gen.DistinctIdeal.Run

@[expose] public section

noncomputable section

namespace Cert.TopK

open Cert.On_untied Cert.On_untied.Gen
open Idealize.ShloMosaic Idealize.ShloMosaic.TcCoe

/-- One row of an array in descending order. -/
def desc (x : S512x16384.Idx → Ideal .f32) (r : Fin 512) : Fin 16384 → EReal := fun i => x (ix2 r (place x r i))

theorem desc_antitone (x : S512x16384.Idx → Ideal .f32) (r : Fin 512) (a b : Fin 16384) (h : a ≤ b) : desc x r b ≤ desc x r a :=
  place_antitone x r h

/-- Sorting a row keeps its values. -/
theorem range_desc (x : S512x16384.Idx → Ideal .f32) (r : Fin 512) :
    Set.range (desc x r) = Set.range fun k : Fin 16384 => (x (ix2 r k) : EReal) := by
  ext y
  constructor
  · rintro ⟨i, h⟩
    exact ⟨place x r i, h⟩
  · rintro ⟨k, h⟩
    obtain ⟨i, hi⟩ := sortedFrom_surjective _ k
    exact ⟨i, (congrArg (fun q => (x (ix2 r q) : EReal)) hi).trans h⟩

/-- A column as a place in the row. -/
abbrev col (j : Fin 16) : Fin 16384 := ⟨j.val, by have := j.isLt; omega⟩

/-- Column `j` of the sorted row is the `j`-th distinct value when the values before it are distinct or least of all. -/
theorem top_eq_lead (x : S512x16384.Idx → Ideal .f32) (r : Fin 512) (j : Fin 16)
    (h : ∀ a b : Fin 16384, b.val = a.val + 1 → b ≤ col j → desc x r b ≠ desc x r a ∨ desc x r a = ⊥) :
    top x (ix2 r j) = lead (Set.range fun k : Fin 16384 => (x (ix2 r k) : EReal)) j := by
  rw [← range_desc]
  exact (top_apply x r j).trans (lead_of_descending (desc x r) (desc_antitone x r) (col j) h).symm

/-- Two neighbours of the sixteen columns, that the mask of column `j` compares, are not equal. -/
theorem untied_apply (x : S512x16384.Idx → Ideal .f32) (r : Fin 512) (j : Fin 16) (h : fn (F := Ideal) x (ix2 r j) = 1#1)
    (n : Fin 15) (hn : n.val < j.val) :
    (top x (ix2 r ⟨n.val + 1, by omega⟩) : EReal) ≠ top x (ix2 r ⟨n.val, by omega⟩) := by
  unfold fn at h
  dsimp only at h
  have h' := Host.reduce_andi_eq_one _ _ _ _ _ h (ix3 r j n) (by
    funext a
    fin_cases a <;> rfl)
  clear h
  change ori _ _ (ix3 r j n) = 1#1 at h'
  revert h'
  have ht : fn_take_along_axis (F := Ideal) x
    (extractStridedSlice S512x16 ![0, 0] (fn_argsort (F := Ideal) (Host.negf x)) slices_S512x16384_S512x16_0_0) = top x := rfl
  rw [ht]
  generalize top x = t
  intro h'
  pointwise at h'
  have hlt : ∀ (n : Fin 15) (j : Fin 16), n.val < j.val → IntOp.cmpi .sge (BitVec.ofNat 32 n.val) (BitVec.ofNat 32 j.val) = 0#1 := by
    decide
  rw [hlt n j hn] at h'
  intro e
  have e' : t (ix2 r ⟨1 + n.val, by omega⟩) = t (ix2 r ⟨n.val, by omega⟩) :=
    (congrArg (fun q => t (ix2 r q)) (Fin.ext (Nat.add_comm 1 n.val))).trans e
  rw [decide_eq_false (not_not.2 e')] at h'
  exact absurd h' (by decide)

/-- Where the mask holds, column `j` of the reference is the `j`-th distinct value of the row. -/
theorem top_untied (x : S512x16384.Idx → Ideal .f32) (r : Fin 512) (j : Fin 16) (h : fn (F := Ideal) x (ix2 r j) = 1#1) :
    top x (ix2 r j) = lead (Set.range fun k : Fin 16384 => (x (ix2 r k) : EReal)) j := by
  refine top_eq_lead x r j fun a b hb hj => Or.inl ?_
  have hj' : b.val ≤ j.val := hj
  have hj'' := j.isLt
  have := untied_apply x r j h ⟨a.val, by omega⟩ (by show a.val < j.val; omega)
  rw [top_apply, top_apply] at this
  have eb : (⟨a.val + 1, by omega⟩ : Fin 16384) = b := Fin.ext hb.symm
  have e := this
  simp only [eb] at e
  exact e

/-- The comparator of the one-operand sort is `<`. -/
theorem comparator_one_eq (a b : Ideal .f32) :
    Cert.DistinctIdeal.comparator_f32_d1 a b = BitVec.ofBool (decide ((a : EReal) < (b : EReal))) :=
  comparator_eq (a, 0#32) (b, 0#32)

/-- The values the second reference sorts first are the row in descending order. -/
theorem sort_apply (x : S512x16384.Idx → Ideal .f32) (r : Fin 512) (k : Fin 16384) :
    (Host.negf (Host.sort S512x16384 1 (Cert.DistinctIdeal.comparator_f32_d1 (F := Ideal)) (Host.negf x)) (ix2 r k) : EReal) = desc x r k := by
  have al : ∀ k' : Fin 16384, (ix2 r k : S512x16384.Idx).along (1 : Fin 2) k' = ix2 r k' := fun k' =>
    funext fun a => by fin_cases a <;> rfl
  have hc : (fun k' k'' : Fin 16384 => Cert.DistinctIdeal.comparator_f32_d1 (F := Ideal)
      (Host.negf x ((ix2 r k : S512x16384.Idx).along (1 : Fin 2) k')) (Host.negf x ((ix2 r k : S512x16384.Idx).along (1 : Fin 2) k'')) == 1#1)
      = fun k' k'' => decide (-(x (ix2 r k') : EReal) < -(x (ix2 r k'') : EReal)) := by
    funext k' k''
    rw [comparator_one_eq, al k', al k'']
    show (BitVec.ofBool (decide (-(x (ix2 r k') : EReal) < -(x (ix2 r k'') : EReal))) == 1#1) = _
    cases decide (-(x (ix2 r k') : EReal) < -(x (ix2 r k'') : EReal)) <;> rfl
  have fin : ∀ q : Fin 16384, q = place x r k → (-(-(x ((ix2 r k : S512x16384.Idx).along (1 : Fin 2) q) : EReal)) : EReal) = desc x r k := by
    intro q hq
    rw [al, neg_neg, hq]
    rfl
  unfold Host.sort
  exact fin _ (congrArg (fun f : Fin 16384 → Fin 16384 → Bool => sortedFrom f k) hc)

/-- Rows with every value equal to the one before it replaced by the least value of all. -/
def dropRepeats (s : S512x16384.Idx → Ideal .f32) : S512x16384.Idx → Ideal .f32 :=
  select (Cert.DistinctIdeal.Value.fn_main_v7 (F := Ideal)
      (broadcastInDim Cert.DistinctIdeal.S512x1 ![] Cert.DistinctIdeal.Gen.bcast_S_S512x1 (constantI S_ 1 1#1))
      (cmpf .une (extractStridedSlice Cert.DistinctIdeal.S512x16383 ![0, 1] s Cert.DistinctIdeal.Gen.slices_S512x16384_S512x16383_0_1)
        (extractStridedSlice Cert.DistinctIdeal.S512x16383 ![0, 0] s Cert.DistinctIdeal.Gen.slices_S512x16384_S512x16383_0_0)))
    s (broadcastInDim S512x16384 ![] Cert.DistinctIdeal.Gen.bcast_S_S512x16384 (constant (F := Ideal) S_ .f32 0xFF800000#32))

/-- The first value of a row stays. -/
theorem dropRepeats_zero (s : S512x16384.Idx → Ideal .f32) (r : Fin 512) (i : Fin 16384) (hi : i.val = 0) :
    dropRepeats s (ix2 r i) = s (ix2 r i) := by
  unfold dropRepeats Cert.DistinctIdeal.Value.fn_main_v7
  pointwise
  rw [dif_pos (by omega)]
  rfl

/-- A later value stays when it differs from the one before it. -/
theorem dropRepeats_next (s : S512x16384.Idx → Ideal .f32) (r : Fin 512) (a b : Fin 16384) (hb : b.val = a.val + 1) :
    (dropRepeats s (ix2 r b) : EReal) = if (s (ix2 r b) : EReal) ≠ s (ix2 r a) then (s (ix2 r b) : EReal) else ⊥ := by
  have bot : Ideal.ofBits .f32 0xFF800000#32 = (⊥ : EReal) := by simp [Ideal.ofBits, Ideal.ieee]
  have read : ∀ p q : Fin 16384, p = a → q = b →
      (Scalar.select (BitVec.ofBool (decide ((s (ix2 r q) : EReal) ≠ s (ix2 r p)))) (s (ix2 r b) : EReal) ⊥)
        = if (s (ix2 r b) : EReal) ≠ s (ix2 r a) then (s (ix2 r b) : EReal) else ⊥ := by
    intro p q hp hq
    rw [hp, hq]
    by_cases h : (s (ix2 r b) : EReal) ≠ s (ix2 r a)
    · rw [if_pos h, decide_eq_true h]
      rfl
    · rw [if_neg h, decide_eq_false h]
      rfl
  unfold dropRepeats Cert.DistinctIdeal.Value.fn_main_v7
  pointwise
  rw [dif_neg (by omega), bot]
  exact read _ _ (Fin.ext (by show b.val - 1 = a.val; omega)) (Fin.ext (by show 1 + (b.val - 1) = b.val; omega))

/-- The sorted rows with every value equal to the one before it dropped. -/
def firsts (x : S512x16384.Idx → Ideal .f32) : S512x16384.Idx → Ideal .f32 :=
  dropRepeats (Host.negf (Host.sort S512x16384 1 Cert.DistinctIdeal.comparator_f32_d1 (Host.negf x)))

/-- A row of the second reference after its repeated values are dropped. -/
theorem firsts_apply (x : S512x16384.Idx → Ideal .f32) (r : Fin 512) :
    Firsts (desc x r) fun i => (firsts x (ix2 r i) : EReal) := by
  have hs := sort_apply x r
  unfold firsts
  refine ⟨desc_antitone x r, fun i hi => ?_, fun a b hb hne => ?_, fun a b hb he => ?_⟩
  · exact (dropRepeats_zero _ r i hi).trans (hs i)
  · refine (dropRepeats_next _ r a b hb).trans ?_
    rw [hs a, hs b, if_pos hne]
  · refine (dropRepeats_next _ r a b hb).trans ?_
    rw [hs a, hs b, if_neg (not_not.2 he)]

/-- Column `j` of the second reference is the `j`-th distinct value of the row. -/
theorem top_firsts (x : S512x16384.Idx → Ideal .f32) (r : Fin 512) (j : Fin 16) :
    top (firsts x) (ix2 r j) = lead (Set.range fun k : Fin 16384 => (x (ix2 r k) : EReal)) j := by
  have hf := firsts_apply x r
  rw [← range_desc, ← hf.lead_eq]
  refine top_eq_lead (firsts x) r j fun a b hb _ => ?_
  by_cases hbot : desc (firsts x) r a = ⊥
  · exact Or.inr hbot
  · refine Or.inl fun e => ?_
    have := sortedFrom_injective _ (hf.injective (place (firsts x) r a) (place (firsts x) r b) e.symm hbot)
    rw [this] at hb
    omega

/-- The second reference's result. -/
theorem distinct_eq (m : (ℓ : Loc Cert.DistinctIdeal.nD Cert.DistinctIdeal.τ Cert.DistinctIdeal.sig) → Buf (Elt Ideal) ℓ) (c : Dev Cert.DistinctIdeal.nD) :
    Cert.DistinctIdeal.Value.res_main_v12 m c = top (firsts (m ((c.tc : Thread Cert.DistinctIdeal.nD Cert.DistinctIdeal.τ).loc Cert.DistinctIdeal.main_arg0))) := by
  unfold Cert.DistinctIdeal.Value.res_main_v12
  rfl

end Cert.TopK
-- ==== Proof.Value.lean ====
/-
The two value claims: on every device the kernel's result is the second reference's, and the first reference's where the
mask holds. Where they differ from the first reference: in an array of equal values the kernel's second column is the least
value of all, and the reference's is the value itself.
-/
module

public import proofs.«01_k».proof.Proof.Frames
public import proofs.«01_k».proof.Proof.Whole
public import proofs.«01_k».proof.Proof.Host

@[expose] public section

noncomputable section

namespace Cert.TopK

open Idealize.ShloMosaic Idealize.ShloMosaic.TcCoe Idealize.SL.Sem

/-- The two ways of naming the values of a row of the whole array. -/
theorem rowW_eq (A : VW) (r : Fin 512) : rowW A r = Set.range fun k : Fin 16384 => (A (ix2 r k) : EReal) := by
  ext x
  exact ⟨fun ⟨k, h⟩ => ⟨k, h.symm⟩, fun ⟨k, h⟩ => ⟨k, h.symm⟩⟩

section Kernel

open Cert.KernelIdeal

variable (m : (ℓ : Loc nD τ sig) → Buf (Elt Ideal) ℓ) (ρ : Dev nD → PrngReg) (A : VW)
  (hA : ∀ c : Dev nD, m ((c.tc : Thread nD τ).loc main_arg0)
    = Layout.blockN ⟨2, ![512, 4096]⟩ ⟨2, ![512, 16384]⟩ (Layout.meshBlock [2, 4, 4] ![[], [1]] c) A)
include hA

/-- The kernel ends with the distinct values of the whole array's rows on every device, where `B` says what they are. -/
theorem kernel_run (P : Fin 512 → Fin 16 → Prop) (B : Fin 512 → Fin 16 → EReal) (hB : ∀ r j, P r j → B r j = lead (Set.range fun k : Fin 16384 => (A (ix2 r k) : EReal)) j) :
    θ_run defs (onTc (τ := τ) (main (F := Ideal))) ⟨m, fun _ => 0, ρ⟩ fun r => ∀ c : Dev nD,
      (∀ (i : Fin 512) (j : Fin 16), P i j → (r.2.mem ((c.tc : Thread nD τ).loc main_v1) : S512x16.Idx → EReal) (ix2 i j) = B i j)
      ∧ r.2.mem ((c.tc : Thread nD τ).loc main_arg0) = m ((c.tc : Thread nD τ).loc main_arg0) := by
  refine (θ_run defs _ _).mono (fun r h c => ⟨fun i j hP => ?_, (h.1 c (0 : Fin 2)).trans (finalA_x m ρ c)⟩) (run_main (F := Ideal) m ρ)
  have e := (h.1 c (1 : Fin 2)).trans (finalA_o m ρ c)
  refine (congrFun e (ix2 i j)).trans ((outAt_apply m ρ A c i j hA).trans ?_)
  rw [rowW_eq, hB i j hP]

end Kernel

/-- On every device the result is that of the reference that drops repeated values. -/
theorem value_distinct : Cert.algebraic_KernelIdeal_DistinctIdeal := fun m ρ m' ρ' _ hA => by
  refine ⟨Cert.DistinctIdeal.Value.res_main_v12 m' 0, ?_, ?_⟩
  · refine (θ_run Cert.KernelIdeal.defs _ _).mono (fun r h c => ⟨?_, (h c).2⟩)
      (kernel_run m ρ _ hA (fun _ _ => True) (fun i j => top (firsts (m' (((0 : Dev Cert.DistinctIdeal.nD).tc : Thread Cert.DistinctIdeal.nD Cert.DistinctIdeal.τ).loc Cert.DistinctIdeal.main_arg0))) (ix2 i j))
        fun i j _ => top_firsts _ i j)
    rw [distinct_eq]
    refine funext fun i => ?_
    obtain ⟨i', j, rfl⟩ : ∃ (i' : Fin 512) (j : Fin 16), i = ix2 i' j := ⟨i 0, i 1, eq_ix2 i⟩
    exact (h c).1 i' j trivial
  · exact (θ_run Cert.DistinctIdeal.defs _ _).mono (fun r h => ⟨(h 0).1, (h 0).2⟩) (Cert.DistinctIdeal.Value.run (F := Ideal) m' ρ')

/-- Where no two of a row's leading values are equal, the result is the reference's. -/
theorem value_untied : Cert.algebraic_KernelIdeal_ReferenceIdeal_on_untied := fun m ρ m' ρ' _ hA => by
  refine ⟨top (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨fun i hi => ?_, (h c).2⟩)
      (kernel_run m ρ _ hA (fun i j => Cert.On_untied.fn (F := Ideal) (m' (((0 : Dev Cert.ReferenceIdeal.nD).tc : Thread Cert.ReferenceIdeal.nD Cert.ReferenceIdeal.τ).loc Cert.ReferenceIdeal.main_arg0)) (ix2 i j) = 1#1)
        (fun i j => top (m' (((0 : Dev Cert.ReferenceIdeal.nD).tc : Thread Cert.ReferenceIdeal.nD Cert.ReferenceIdeal.τ).loc Cert.ReferenceIdeal.main_arg0)) (ix2 i j))
        fun i j hi => top_untied _ i j hi)
    obtain ⟨i', j, rfl⟩ : ∃ (i' : Fin 512) (j : Fin 16), i = ix2 i' j := ⟨i 0, i 1, eq_ix2 i⟩
    exact (h c).1 i' j hi
  · refine (θ_run Cert.ReferenceIdeal.defs _ _).mono (fun r h => ⟨fun i _ => congrFun ?_ i, (h 0).2⟩)
      (Cert.ReferenceIdeal.Value.run (F := Ideal) m' ρ')
    exact (h 0).1.trans rfl

/-- A single value has no second distinct one. -/
theorem lead_const (v : EReal) : lead (Set.range fun _ : Fin 16384 => v) 1 = ⊥ := by
  refine sSup_eq_bot.2 fun x hx => ?_
  obtain ⟨⟨_, rfl⟩, h⟩ := hx
  exact absurd (h.trans_le (sSup_le (by rintro _ ⟨_, rfl⟩; exact le_rfl))) (lt_irrefl v)

/-- The kernel's second column of an array of equal values. -/
theorem kernel_tied (m : (ℓ : Loc Cert.KernelIdeal.nD Cert.KernelIdeal.τ Cert.KernelIdeal.sig) → Buf (Elt Ideal) ℓ)
    (ρ : Dev Cert.KernelIdeal.nD → PrngReg) (v : EReal)
    (hA : ∀ c : Dev Cert.KernelIdeal.nD, m ((c.tc : Thread Cert.KernelIdeal.nD Cert.KernelIdeal.τ).loc Cert.KernelIdeal.main_arg0)
      = Layout.blockN ⟨2, ![512, 4096]⟩ ⟨2, ![512, 16384]⟩ (Layout.meshBlock [2, 4, 4] ![[], [1]] c) fun _ => v) :
    θ_run Cert.KernelIdeal.defs (onTc (τ := Cert.KernelIdeal.τ) (Cert.KernelIdeal.main (F := Ideal))) ⟨m, fun _ => 0, ρ⟩ fun r =>
      ∀ (c : Dev Cert.KernelIdeal.nD) (i : Fin 512),
        (r.2.mem ((c.tc : Thread Cert.KernelIdeal.nD Cert.KernelIdeal.τ).loc Cert.KernelIdeal.main_v1) : Cert.KernelIdeal.S512x16.Idx → EReal) (ix2 i 1) = (⊥ : EReal) :=
  (θ_run Cert.KernelIdeal.defs _ _).mono (fun _ h c i => (h c).1 i 1 rfl)
    (kernel_run m ρ (fun _ => v) hA (fun _ j => j = 1) (fun _ _ => ⊥) (by rintro _ _ rfl; exact (lead_const v).symm))

/-- The reference's columns of an array of equal values. -/
theorem reference_tied (v : EReal) (i : Fin 512) (j : Fin 16) : top (fun _ => v) (ix2 i j) = v := top_apply _ i j

end Cert.TopK
-- ==== Proof.lean ====
/- The certificate's claims, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.DistinctIdeal
public import proofs.«01_k».proof.Proof.Gen.DistinctIdeal.Run
public import proofs.«01_k».proof.Proof.Gen.On_untied
public import proofs.«01_k».proof.Proof.Value
public import Idealize.ShloMosaic.Adequacy
public import Idealize.ShloMosaic.Init

@[expose] public section

noncomputable section

namespace Cert.Proof

open Idealize.ShloMosaic Idealize.SL.Sem Cert.Kernel Cert.TopK

/-- The seven claims, after the facts of the printed programs. -/
theorem claim : Cert.Claim := ⟨Cert.Kernel.Gen.facts, Cert.KernelIdeal.Gen.facts, Cert.ReferenceIdeal.Gen.facts, Cert.DistinctIdeal.Gen.facts, Cert.On_untied.Gen.facts,
  frame_kernel, frame_kernelIdeal, frame_reference, frame_distinct, kept, value_distinct, value_untied⟩

end Cert.Proof

end
